-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_countable [hPre_countable : Cert.Pre_countable.Facts] (m : (ℓ : Loc Cert.KernelIdeal.nD Cert.KernelIdeal.τ Cert.KernelIdeal.sig) → Buf (Elt Ideal) ℓ) : Prop :=
  ∀ c : Dev Cert.KernelIdeal.nD,
    (Cert.Pre_countable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_countable [hPre_countable : Cert.Pre_countable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_countable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_countable [hKernelIdeal : Cert.KernelIdeal.Facts] [hPre_countable : Cert.Pre_countable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_countable m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_countable [hReferenceIdeal : Cert.ReferenceIdeal.Facts] [hPre_countable : Cert.Pre_countable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_countable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_countable [hKernelIdeal : Cert.KernelIdeal.Facts] [hReferenceIdeal : Cert.ReferenceIdeal.Facts] [hPre_countable : Cert.Pre_countable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_countable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_countable : Cert.Pre_countable.Facts),
    quiescent_Kernel (hKernel := hKernel)
    ∧ quiescent_KernelIdeal (hKernelIdeal := hKernelIdeal)
    ∧ quiescent_KernelIdeal_pre_countable (hKernelIdeal := hKernelIdeal) (hPre_countable := hPre_countable)
    ∧ quiescent_ReferenceIdeal (hReferenceIdeal := hReferenceIdeal)
    ∧ quiescent_ReferenceIdeal_pre_countable (hReferenceIdeal := hReferenceIdeal) (hPre_countable := hPre_countable)
    ∧ preserves_Kernel_KernelIdeal
    ∧ algebraic_KernelIdeal_ReferenceIdeal_pre_countable (hKernelIdeal := hKernelIdeal) (hReferenceIdeal := hReferenceIdeal) (hPre_countable := hPre_countable)
-- ==== Pre_countable.lean ====
abbrev S8x1024x1024 : Shape := ⟨3, ![8, 1024, 1024]⟩
abbrev S512x512 : Shape := ⟨2, ![512, 512]⟩
abbrev S_ : Shape := ⟨0, ![]⟩
abbrev S8x1024 : Shape := ⟨2, ![8, 1024]⟩

class Facts : Prop where
  bcast_S_S8x1024x1024 : S_.BroadcastsInDim S8x1024x1024 (![] : Fin 0 → Fin S8x1024x1024.rank)
  natLt_1_32 : 1 < 32
  reducesTo_S8x1024x1024_S8x1024_d2 : S8x1024x1024.ReducesTo [2] S8x1024
  h_S_ : 0 < S_.numel
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : IVec S8x1024x1024 32) (main_arg1 : FVec F S512x512 .f32) : IVec S_ 1 :=
  let main_c : IVec S_ 32 := constantI S_ 32 1#32
  let main_v0 : IVec S8x1024x1024 32 := broadcastInDim S8x1024x1024 ![] bcast_S_S8x1024x1024 main_c
  let main_v1 : IVec S8x1024x1024 1 := cmpi .eq main_arg0 main_v0
  let main_v2 : IVec S8x1024x1024 32 := (extui 32 · natLt_1_32) main_v1
  let main_c_0 : IVec S_ 32 := constantI S_ 32 0#32
  let main_v3 : IVec S8x1024 32 := (fun x v => Host.reduce IntOp.addi x v reducesTo_S8x1024x1024_S8x1024_d2 h_S_) main_v2 main_c_0
  let main_c_1 : IVec S_ 32 := constantI S_ 32 4294967295#32
  let main_v4 : IVec S8x1024x1024 32 := broadcastInDim S8x1024x1024 ![] bcast_S_S8x1024x1024 main_c_1
  let main_v5 : IVec S8x1024x1024 1 := cmpi .ne main_arg0 main_v4
  let main_c_2 : IVec S_ 1 := constantI S_ 1 1#1
  let main_v6 : IVec S_ 1 := (fun x v => Host.reduce IntOp.andi x v reducesTo_S8x1024x1024_S_d0_1_2 h_S_) main_v5 main_c_2
  let main_c_3 : IVec S_ 32 := constantI S_ 32 512#32
  let main_v7 : IVec S8x1024 32 := broadcastInDim S8x1024 ![] bcast_S_S8x1024 main_c_3
  let main_v8 : IVec S8x1024 1 := cmpi .slt main_v3 main_v7
  let main_c_4 : IVec S_ 1 := constantI S_ 1 1#1
  let main_v9 : IVec S_ 1 := (fun x v => Host.reduce IntOp.andi x v reducesTo_S8x1024_S_d0_1 h_S_) main_v8 main_c_4
  let main_v10 : IVec S_ 1 := andi main_v6 main_v9
  main_v10
-- ==== Kernel.lean ====
abbrev S8x1024x1024 : Shape := ⟨3, ![8, 1024, 1024]⟩
abbrev S512x512 : Shape := ⟨2, ![512, 512]⟩
abbrev S8192x1024 : Shape := ⟨2, ![8192, 1024]⟩
abbrev S8192 : Shape := ⟨1, ![8192]⟩
abbrev S32x1024 : Shape := ⟨2, ![32, 1024]⟩
abbrev S256 : Shape := ⟨1, ![256]⟩
abbrev S_ : Shape := ⟨0, ![]⟩
abbrev S16 : Shape := ⟨1, ![16]⟩
abbrev S2x1x4096 : Shape := ⟨3, ![2, 1, 4096]⟩
abbrev S8192x512 : Shape := ⟨2, ![8192, 512]⟩
abbrev S1x1x4096 : Shape := ⟨3, ![1, 1, 4096]⟩
abbrev S4096x512 : Shape := ⟨2, ![4096, 512]⟩
abbrev S4096x1 : Shape := ⟨2, ![4096, 1]⟩
abbrev S8x1024x512 : Shape := ⟨3, ![8, 1024, 512]⟩

abbrev nBuf : Table → Nat
  | .hbm => 7
  | .local .tc .vmem => 5
  | .local .scVector .vmem => 3
  | _ => 0

abbrev bufTy : (tb : Table) → Fin (nBuf tb) → BufTy
  | .hbm, ⟨0, _⟩ => ⟨S8x1024x1024, .i32⟩
  | .hbm, ⟨1, _⟩ => ⟨S512x512, .f32⟩
  | .hbm, ⟨2, _⟩ => ⟨S8192x1024, .i32⟩
  | .hbm, ⟨3, _⟩ => ⟨S8192, .i32⟩
  | .hbm, ⟨4, _⟩ => ⟨S2x1x4096, .i32⟩
  | .hbm, ⟨5, _⟩ => ⟨S8192x512, .f32⟩
  | .hbm, ⟨6, _⟩ => ⟨S8x1024x512, .f32⟩
  | .local .tc .vmem, ⟨0, _⟩ => ⟨S1x1x4096, .i32⟩
  | .local .tc .vmem, ⟨1, _⟩ => ⟨S1x1x4096, .i32⟩
  | .local .tc .vmem, ⟨2, _⟩ => ⟨S512x512, .f32⟩
  | .local .tc .vmem, ⟨3, _⟩ => ⟨S4096x512, .f32⟩
  | .local .tc .vmem, ⟨4, _⟩ => ⟨S4096x512, .f32⟩
  | .local .scVector .vmem, ⟨0, _⟩ => ⟨S32x1024, .i32⟩
  | .local .scVector .vmem, ⟨1, _⟩ => ⟨S32x1024, .i32⟩
  | .local .scVector .vmem, ⟨2, _⟩ => ⟨S256, .i32⟩
  | _, _ => ⟨S8x1024x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_0 : BitVec 32 := 256#32
  let v3 : BitVec 32 := Scalar.muli v1 c256_i32_0
  let v4 : BitVec 32 := Scalar.addi c0_i32 v3
  let v5 : BitVec 32 := Scalar.addi v4 c0_i32_1
  let c0_i32_2 : BitVec 32 := 0#32
  ![v5.toNat, 0]
@[reducible] def k0_t1_loop : Scf.Loop 32 :=
  let c0_i32_9 : BitVec 32 := 0#32
  let c2_i32_10 : BitVec 32 := 2#32
  let v14 : BitVec 32 := Scalar.addi c0_i32_9 c2_i32_10
  let c1_i32 : BitVec 32 := 1#32
  ⟨c0_i32_9, v14, c1_i32⟩
@[reducible] def k0_t2_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk1 (v56 : IVec S16 32) (v72 : IVec S16 32) : Prop :=
  (∀ a x, ((![v56, v72] : Fin 2 → IVec S16 32) a x).toNat < S32x1024.size a)
theorem k0_idx1_inb : ∀ (v56 : IVec S16 32) (v72 : IVec S16 32) (k0_hw1 : k0_chk1 v56 v72), ∀ a x, ((![v56, v72] : Fin 2 → IVec S16 32) a x).toNat < S32x1024.size a := fun v56 v72 k0_hw1 => k0_hw1

def k0_chk2 (v56 : IVec S16 32) (v83 : IVec S16 32) : Prop :=
  (∀ a x, ((![v56, v83] : Fin 2 → IVec S16 32) a x).toNat < S32x1024.size a)
theorem k0_idx2_inb : ∀ (v56 : IVec S16 32) (v83 : IVec S16 32) (k0_hw2 : k0_chk2 v56 v83), ∀ a x, ((![v56, v83] : Fin 2 → IVec S16 32) a x).toNat < S32x1024.size a := fun v56 v83 k0_hw2 => k0_hw2

def k0_chk3 (v56 : IVec S16 32) (v94 : IVec S16 32) : Prop :=
  (∀ a x, ((![v56, v94] : Fin 2 → IVec S16 32) a x).toNat < S32x1024.size a)
theorem k0_idx3_inb : ∀ (v56 : IVec S16 32) (v94 : IVec S16 32) (k0_hw3 : k0_chk3 v56 v94), ∀ a x, ((![v56, v94] : Fin 2 → IVec S16 32) a x).toNat < S32x1024.size a := fun v56 v94 k0_hw3 => k0_hw3

def k0_chk4 (v56 : IVec S16 32) (v105 : IVec S16 32) : Prop :=
  (∀ a x, ((![v56, v105] : Fin 2 → IVec S16 32) a x).toNat < S32x1024.size a)
theorem k0_idx4_inb : ∀ (v56 : IVec S16 32) (v105 : IVec S16 32) (k0_hw4 : k0_chk4 v56 v105), ∀ a x, ((![v56, v105] : Fin 2 → IVec S16 32) a x).toNat < S32x1024.size a := fun v56 v105 k0_hw4 => k0_hw4

def k0_chk5 (v56 : IVec S16 32) (v116 : IVec S16 32) : Prop :=
  (∀ a x, ((![v56, v116] : Fin 2 → IVec S16 32) a x).toNat < S32x1024.size a)
theorem k0_idx5_inb : ∀ (v56 : IVec S16 32) (v116 : IVec S16 32) (k0_hw5 : k0_chk5 v56 v116), ∀ a x, ((![v56, v116] : Fin 2 → IVec S16 32) a x).toNat < S32x1024.size a := fun v56 v116 k0_hw5 => k0_hw5

def k0_chk6 (v56 : IVec S16 32) (v127 : IVec S16 32) : Prop :=
  (∀ a x, ((![v56, v127] : Fin 2 → IVec S16 32) a x).toNat < S32x1024.size a)
theorem k0_idx6_inb : ∀ (v56 : IVec S16 32) (v127 : IVec S16 32) (k0_hw6 : k0_chk6 v56 v127), ∀ a x, ((![v56, v127] : Fin 2 → IVec S16 32) a x).toNat < S32x1024.size a := fun v56 v127 k0_hw6 => k0_hw6

def k0_chk7 (v56 : IVec S16 32) (v138 : IVec S16 32) : Prop :=
  (∀ a x, ((![v56, v138] : Fin 2 → IVec S16 32) a x).toNat < S32x1024.size a)
theorem k0_idx7_inb : ∀ (v56 : IVec S16 32) (v138 : IVec S16 32) (k0_hw7 : k0_chk7 v56 v138), ∀ a x, ((![v56, v138] : Fin 2 → IVec S16 32) a x).toNat < S32x1024.size a := fun v56 v138 k0_hw7 => k0_hw7

def k0_chk8 (v56 : IVec S16 32) (v149 : IVec S16 32) : Prop :=
  (∀ a x, ((![v56, v149] : Fin 2 → IVec S16 32) a x).toNat < S32x1024.size a)
theorem k0_idx8_inb : ∀ (v56 : IVec S16 32) (v149 : IVec S16 32) (k0_hw8 : k0_chk8 v56 v149), ∀ a x, ((![v56, v149] : Fin 2 → IVec S16 32) a x).toNat < S32x1024.size a := fun v56 v149 k0_hw8 => k0_hw8

def k0_chk9 (v56 : IVec S16 32) (v160 : IVec S16 32) : Prop :=
  (∀ a x, ((![v56, v160] : Fin 2 → IVec S16 32) a x).toNat < S32x1024.size a)
theorem k0_idx9_inb : ∀ (v56 : IVec S16 32) (v160 : IVec S16 32) (k0_hw9 : k0_chk9 v56 v160), ∀ a x, ((![v56, v160] : Fin 2 → IVec S16 32) a x).toNat < S32x1024.size a := fun v56 v160 k0_hw9 => k0_hw9

def k0_chk10 (v56 : IVec S16 32) (v171 : IVec S16 32) : Prop :=
  (∀ a x, ((![v56, v171] : Fin 2 → IVec S16 32) a x).toNat < S32x1024.size a)
theorem k0_idx10_inb : ∀ (v56 : IVec S16 32) (v171 : IVec S16 32) (k0_hw10 : k0_chk10 v56 v171), ∀ a x, ((![v56, v171] : Fin 2 → IVec S16 32) a x).toNat < S32x1024.size a := fun v56 v171 k0_hw10 => k0_hw10

def k0_chk11 (v56 : IVec S16 32) (v182 : IVec S16 32) : Prop :=
  (∀ a x, ((![v56, v182] : Fin 2 → IVec S16 32) a x).toNat < S32x1024.size a)
theorem k0_idx11_inb : ∀ (v56 : IVec S16 32) (v182 : IVec S16 32) (k0_hw11 : k0_chk11 v56 v182), ∀ a x, ((![v56, v182] : Fin 2 → IVec S16 32) a x).toNat < S32x1024.size a := fun v56 v182 k0_hw11 => k0_hw11

def k0_chk12 (v56 : IVec S16 32) (v193 : IVec S16 32) : Prop :=
  (∀ a x, ((![v56, v193] : Fin 2 → IVec S16 32) a x).toNat < S32x1024.size a)
theorem k0_idx12_inb : ∀ (v56 : IVec S16 32) (v193 : IVec S16 32) (k0_hw12 : k0_chk12 v56 v193), ∀ a x, ((![v56, v193] : Fin 2 → IVec S16 32) a x).toNat < S32x1024.size a := fun v56 v193 k0_hw12 => k0_hw12

def k0_chk13 (v56 : IVec S16 32) (v204 : IVec S16 32) : Prop :=
  (∀ a x, ((![v56, v204] : Fin 2 → IVec S16 32) a x).toNat < S32x1024.size a)
theorem k0_idx13_inb : ∀ (v56 : IVec S16 32) (v204 : IVec S16 32) (k0_hw13 : k0_chk13 v56 v204), ∀ a x, ((![v56, v204] : Fin 2 → IVec S16 32) a x).toNat < S32x1024.size a := fun v56 v204 k0_hw13 => k0_hw13

def k0_chk14 (v56 : IVec S16 32) (v215 : IVec S16 32) : Prop :=
  (∀ a x, ((![v56, v215] : Fin 2 → IVec S16 32) a x).toNat < S32x1024.size a)
theorem k0_idx14_inb : ∀ (v56 : IVec S16 32) (v215 : IVec S16 32) (k0_hw14 : k0_chk14 v56 v215), ∀ a x, ((![v56, v215] : Fin 2 → IVec S16 32) a x).toNat < S32x1024.size a := fun v56 v215 k0_hw14 => k0_hw14

def k0_chk15 (v56 : IVec S16 32) (v226 : IVec S16 32) : Prop :=
  (∀ a x, ((![v56, v226] : Fin 2 → IVec S16 32) a x).toNat < S32x1024.size a)
theorem k0_idx15_inb : ∀ (v56 : IVec S16 32) (v226 : IVec S16 32) (k0_hw15 : k0_chk15 v56 v226), ∀ a x, ((![v56, v226] : Fin 2 → IVec S16 32) a x).toNat < S32x1024.size a := fun v56 v226 k0_hw15 => k0_hw15

def k0_chk16 (v56 : IVec S16 32) (v237 : IVec S16 32) : Prop :=
  (∀ a x, ((![v56, v237] : Fin 2 → IVec S16 32) a x).toNat < S32x1024.size a)
theorem k0_idx16_inb : ∀ (v56 : IVec S16 32) (v237 : IVec S16 32) (k0_hw16 : k0_chk16 v56 v237), ∀ a x, ((![v56, v237] : Fin 2 → IVec S16 32) a x).toNat < S32x1024.size a := fun v56 v237 k0_hw16 => k0_hw16
def k0_off2 (k0_t1 : Fin k0_t1_loop.trips) : Fin 1 → Nat :=
  let c0_i32_79 : BitVec 32 := 0#32
  let c0_i32_9 : BitVec 32 := 0#32
  let c1_i32 : BitVec 32 := 1#32
  let arg9 : BitVec 32 := Scf.iv c0_i32_9 c1_i32 k0_t1
  let c16_i32_78 : BitVec 32 := 16#32
  let v62 : BitVec 32 := Scalar.muli arg9 c16_i32_78
  let v63 : BitVec 32 := Scalar.addi c0_i32_79 v62
  let v64 : Index := Scalar.indexCast v63
  ![v64.toNat]
@[reducible] def k0_t3_loop : Scf.Loop 32 :=
  let c0_i32_17 : BitVec 32 := 0#32
  let c2_i32_18 : BitVec 32 := 2#32
  let v20 : BitVec 32 := Scalar.addi c0_i32_17 c2_i32_18
  let c1_i32_19 : BitVec 32 := 1#32
  ⟨c0_i32_17, v20, c1_i32_19⟩
@[reducible] def k0_t4_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk17 (v56 : IVec S16 32) (v72 : IVec S16 32) : Prop :=
  (∀ a x, ((![v56, v72] : Fin 2 → IVec S16 32) a x).toNat < S32x1024.size a)
theorem k0_idx17_inb : ∀ (v56 : IVec S16 32) (v72 : IVec S16 32) (k0_hw17 : k0_chk17 v56 v72), ∀ a x, ((![v56, v72] : Fin 2 → IVec S16 32) a x).toNat < S32x1024.size a := fun v56 v72 k0_hw17 => k0_hw17

def k0_chk18 (v56 : IVec S16 32) (v83 : IVec S16 32) : Prop :=
  (∀ a x, ((![v56, v83] : Fin 2 → IVec S16 32) a x).toNat < S32x1024.size a)
theorem k0_idx18_inb : ∀ (v56 : IVec S16 32) (v83 : IVec S16 32) (k0_hw18 : k0_chk18 v56 v83), ∀ a x, ((![v56, v83] : Fin 2 → IVec S16 32) a x).toNat < S32x1024.size a := fun v56 v83 k0_hw18 => k0_hw18

def k0_chk19 (v56 : IVec S16 32) (v94 : IVec S16 32) : Prop :=
  (∀ a x, ((![v56, v94] : Fin 2 → IVec S16 32) a x).toNat < S32x1024.size a)
theorem k0_idx19_inb : ∀ (v56 : IVec S16 32) (v94 : IVec S16 32) (k0_hw19 : k0_chk19 v56 v94), ∀ a x, ((![v56, v94] : Fin 2 → IVec S16 32) a x).toNat < S32x1024.size a := fun v56 v94 k0_hw19 => k0_hw19

def k0_chk20 (v56 : IVec S16 32) (v105 : IVec S16 32) : Prop :=
  (∀ a x, ((![v56, v105] : Fin 2 → IVec S16 32) a x).toNat < S32x1024.size a)
theorem k0_idx20_inb : ∀ (v56 : IVec S16 32) (v105 : IVec S16 32) (k0_hw20 : k0_chk20 v56 v105), ∀ a x, ((![v56, v105] : Fin 2 → IVec S16 32) a x).toNat < S32x1024.size a := fun v56 v105 k0_hw20 => k0_hw20

def k0_chk21 (v56 : IVec S16 32) (v116 : IVec S16 32) : Prop :=
  (∀ a x, ((![v56, v116] : Fin 2 → IVec S16 32) a x).toNat < S32x1024.size a)
theorem k0_idx21_inb : ∀ (v56 : IVec S16 32) (v116 : IVec S16 32) (k0_hw21 : k0_chk21 v56 v116), ∀ a x, ((![v56, v116] : Fin 2 → IVec S16 32) a x).toNat < S32x1024.size a := fun v56 v116 k0_hw21 => k0_hw21

def k0_chk22 (v56 : IVec S16 32) (v127 : IVec S16 32) : Prop :=
  (∀ a x, ((![v56, v127] : Fin 2 → IVec S16 32) a x).toNat < S32x1024.size a)
theorem k0_idx22_inb : ∀ (v56 : IVec S16 32) (v127 : IVec S16 32) (k0_hw22 : k0_chk22 v56 v127), ∀ a x, ((![v56, v127] : Fin 2 → IVec S16 32) a x).toNat < S32x1024.size a := fun v56 v127 k0_hw22 => k0_hw22

def k0_chk23 (v56 : IVec S16 32) (v138 : IVec S16 32) : Prop :=
  (∀ a x, ((![v56, v138] : Fin 2 → IVec S16 32) a x).toNat < S32x1024.size a)
theorem k0_idx23_inb : ∀ (v56 : IVec S16 32) (v138 : IVec S16 32) (k0_hw23 : k0_chk23 v56 v138), ∀ a x, ((![v56, v138] : Fin 2 → IVec S16 32) a x).toNat < S32x1024.size a := fun v56 v138 k0_hw23 => k0_hw23

def k0_chk24 (v56 : IVec S16 32) (v149 : IVec S16 32) : Prop :=
  (∀ a x, ((![v56, v149] : Fin 2 → IVec S16 32) a x).toNat < S32x1024.size a)
theorem k0_idx24_inb : ∀ (v56 : IVec S16 32) (v149 : IVec S16 32) (k0_hw24 : k0_chk24 v56 v149), ∀ a x, ((![v56, v149] : Fin 2 → IVec S16 32) a x).toNat < S32x1024.size a := fun v56 v149 k0_hw24 => k0_hw24

def k0_chk25 (v56 : IVec S16 32) (v160 : IVec S16 32) : Prop :=
  (∀ a x, ((![v56, v160] : Fin 2 → IVec S16 32) a x).toNat < S32x1024.size a)
theorem k0_idx25_inb : ∀ (v56 : IVec S16 32) (v160 : IVec S16 32) (k0_hw25 : k0_chk25 v56 v160), ∀ a x, ((![v56, v160] : Fin 2 → IVec S16 32) a x).toNat < S32x1024.size a := fun v56 v160 k0_hw25 => k0_hw25

def k0_chk26 (v56 : IVec S16 32) (v171 : IVec S16 32) : Prop :=
  (∀ a x, ((![v56, v171] : Fin 2 → IVec S16 32) a x).toNat < S32x1024.size a)
theorem k0_idx26_inb : ∀ (v56 : IVec S16 32) (v171 : IVec S16 32) (k0_hw26 : k0_chk26 v56 v171), ∀ a x, ((![v56, v171] : Fin 2 → IVec S16 32) a x).toNat < S32x1024.size a := fun v56 v171 k0_hw26 => k0_hw26

def k0_chk27 (v56 : IVec S16 32) (v182 : IVec S16 32) : Prop :=
  (∀ a x, ((![v56, v182] : Fin 2 → IVec S16 32) a x).toNat < S32x1024.size a)
theorem k0_idx27_inb : ∀ (v56 : IVec S16 32) (v182 : IVec S16 32) (k0_hw27 : k0_chk27 v56 v182), ∀ a x, ((![v56, v182] : Fin 2 → IVec S16 32) a x).toNat < S32x1024.size a := fun v56 v182 k0_hw27 => k0_hw27

def k0_chk28 (v56 : IVec S16 32) (v193 : IVec S16 32) : Prop :=
  (∀ a x, ((![v56, v193] : Fin 2 → IVec S16 32) a x).toNat < S32x1024.size a)
theorem k0_idx28_inb : ∀ (v56 : IVec S16 32) (v193 : IVec S16 32) (k0_hw28 : k0_chk28 v56 v193), ∀ a x, ((![v56, v193] : Fin 2 → IVec S16 32) a x).toNat < S32x1024.size a := fun v56 v193 k0_hw28 => k0_hw28

def k0_chk29 (v56 : IVec S16 32) (v204 : IVec S16 32) : Prop :=
  (∀ a x, ((![v56, v204] : Fin 2 → IVec S16 32) a x).toNat < S32x1024.size a)
theorem k0_idx29_inb : ∀ (v56 : IVec S16 32) (v204 : IVec S16 32) (k0_hw29 : k0_chk29 v56 v204), ∀ a x, ((![v56, v204] : Fin 2 → IVec S16 32) a x).toNat < S32x1024.size a := fun v56 v204 k0_hw29 => k0_hw29

def k0_chk30 (v56 : IVec S16 32) (v215 : IVec S16 32) : Prop :=
  (∀ a x, ((![v56, v215] : Fin 2 → IVec S16 32) a x).toNat < S32x1024.size a)
theorem k0_idx30_inb : ∀ (v56 : IVec S16 32) (v215 : IVec S16 32) (k0_hw30 : k0_chk30 v56 v215), ∀ a x, ((![v56, v215] : Fin 2 → IVec S16 32) a x).toNat < S32x1024.size a := fun v56 v215 k0_hw30 => k0_hw30

def k0_chk31 (v56 : IVec S16 32) (v226 : IVec S16 32) : Prop :=
  (∀ a x, ((![v56, v226] : Fin 2 → IVec S16 32) a x).toNat < S32x1024.size a)
theorem k0_idx31_inb : ∀ (v56 : IVec S16 32) (v226 : IVec S16 32) (k0_hw31 : k0_chk31 v56 v226), ∀ a x, ((![v56, v226] : Fin 2 → IVec S16 32) a x).toNat < S32x1024.size a := fun v56 v226 k0_hw31 => k0_hw31

def k0_chk32 (v56 : IVec S16 32) (v237 : IVec S16 32) : Prop :=
  (∀ a x, ((![v56, v237] : Fin 2 → IVec S16 32) a x).toNat < S32x1024.size a)
theorem k0_idx32_inb : ∀ (v56 : IVec S16 32) (v237 : IVec S16 32) (k0_hw32 : k0_chk32 v56 v237), ∀ a x, ((![v56, v237] : Fin 2 → IVec S16 32) a x).toNat < S32x1024.size a := fun v56 v237 k0_hw32 => k0_hw32
def k0_off3 (k0_t3 : Fin k0_t3_loop.trips) : Fin 1 → Nat :=
  let c32_i32_79 : BitVec 32 := 32#32
  let c0_i32_17 : BitVec 32 := 0#32
  let c1_i32_19 : BitVec 32 := 1#32
  let arg9 : BitVec 32 := Scf.iv c0_i32_17 c1_i32_19 k0_t3
  let c16_i32_78 : BitVec 32 := 16#32
  let v62 : BitVec 32 := Scalar.muli arg9 c16_i32_78
  let v63 : BitVec 32 := Scalar.addi c32_i32_79 v62
  let v64 : Index := Scalar.indexCast v63
  ![v64.toNat]
@[reducible] def k0_t5_loop : Scf.Loop 32 :=
  let c0_i32_26 : BitVec 32 := 0#32
  let c2_i32_27 : BitVec 32 := 2#32
  let v26 : BitVec 32 := Scalar.addi c0_i32_26 c2_i32_27
  let c1_i32_28 : BitVec 32 := 1#32
  ⟨c0_i32_26, v26, c1_i32_28⟩
@[reducible] def k0_t6_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk33 (v56 : IVec S16 32) (v72 : IVec S16 32) : Prop :=
  (∀ a x, ((![v56, v72] : Fin 2 → IVec S16 32) a x).toNat < S32x1024.size a)
theorem k0_idx33_inb : ∀ (v56 : IVec S16 32) (v72 : IVec S16 32) (k0_hw33 : k0_chk33 v56 v72), ∀ a x, ((![v56, v72] : Fin 2 → IVec S16 32) a x).toNat < S32x1024.size a := fun v56 v72 k0_hw33 => k0_hw33

def k0_chk34 (v56 : IVec S16 32) (v83 : IVec S16 32) : Prop :=
  (∀ a x, ((![v56, v83] : Fin 2 → IVec S16 32) a x).toNat < S32x1024.size a)
theorem k0_idx34_inb : ∀ (v56 : IVec S16 32) (v83 : IVec S16 32) (k0_hw34 : k0_chk34 v56 v83), ∀ a x, ((![v56, v83] : Fin 2 → IVec S16 32) a x).toNat < S32x1024.size a := fun v56 v83 k0_hw34 => k0_hw34

def k0_chk35 (v56 : IVec S16 32) (v94 : IVec S16 32) : Prop :=
  (∀ a x, ((![v56, v94] : Fin 2 → IVec S16 32) a x).toNat < S32x1024.size a)
theorem k0_idx35_inb : ∀ (v56 : IVec S16 32) (v94 : IVec S16 32) (k0_hw35 : k0_chk35 v56 v94), ∀ a x, ((![v56, v94] : Fin 2 → IVec S16 32) a x).toNat < S32x1024.size a := fun v56 v94 k0_hw35 => k0_hw35

def k0_chk36 (v56 : IVec S16 32) (v105 : IVec S16 32) : Prop :=
  (∀ a x, ((![v56, v105] : Fin 2 → IVec S16 32) a x).toNat < S32x1024.size a)
theorem k0_idx36_inb : ∀ (v56 : IVec S16 32) (v105 : IVec S16 32) (k0_hw36 : k0_chk36 v56 v105), ∀ a x, ((![v56, v105] : Fin 2 → IVec S16 32) a x).toNat < S32x1024.size a := fun v56 v105 k0_hw36 => k0_hw36

def k0_chk37 (v56 : IVec S16 32) (v116 : IVec S16 32) : Prop :=
  (∀ a x, ((![v56, v116] : Fin 2 → IVec S16 32) a x).toNat < S32x1024.size a)
theorem k0_idx37_inb : ∀ (v56 : IVec S16 32) (v116 : IVec S16 32) (k0_hw37 : k0_chk37 v56 v116), ∀ a x, ((![v56, v116] : Fin 2 → IVec S16 32) a x).toNat < S32x1024.size a := fun v56 v116 k0_hw37 => k0_hw37

def k0_chk38 (v56 : IVec S16 32) (v127 : IVec S16 32) : Prop :=
  (∀ a x, ((![v56, v127] : Fin 2 → IVec S16 32) a x).toNat < S32x1024.size a)
theorem k0_idx38_inb : ∀ (v56 : IVec S16 32) (v127 : IVec S16 32) (k0_hw38 : k0_chk38 v56 v127), ∀ a x, ((![v56, v127] : Fin 2 → IVec S16 32) a x).toNat < S32x1024.size a := fun v56 v127 k0_hw38 => k0_hw38

def k0_chk39 (v56 : IVec S16 32) (v138 : IVec S16 32) : Prop :=
  (∀ a x, ((![v56, v138] : Fin 2 → IVec S16 32) a x).toNat < S32x1024.size a)
theorem k0_idx39_inb : ∀ (v56 : IVec S16 32) (v138 : IVec S16 32) (k0_hw39 : k0_chk39 v56 v138), ∀ a x, ((![v56, v138] : Fin 2 → IVec S16 32) a x).toNat < S32x1024.size a := fun v56 v138 k0_hw39 => k0_hw39

def k0_chk40 (v56 : IVec S16 32) (v149 : IVec S16 32) : Prop :=
  (∀ a x, ((![v56, v149] : Fin 2 → IVec S16 32) a x).toNat < S32x1024.size a)
theorem k0_idx40_inb : ∀ (v56 : IVec S16 32) (v149 : IVec S16 32) (k0_hw40 : k0_chk40 v56 v149), ∀ a x, ((![v56, v149] : Fin 2 → IVec S16 32) a x).toNat < S32x1024.size a := fun v56 v149 k0_hw40 => k0_hw40

def k0_chk41 (v56 : IVec S16 32) (v160 : IVec S16 32) : Prop :=
  (∀ a x, ((![v56, v160] : Fin 2 → IVec S16 32) a x).toNat < S32x1024.size a)
theorem k0_idx41_inb : ∀ (v56 : IVec S16 32) (v160 : IVec S16 32) (k0_hw41 : k0_chk41 v56 v160), ∀ a x, ((![v56, v160] : Fin 2 → IVec S16 32) a x).toNat < S32x1024.size a := fun v56 v160 k0_hw41 => k0_hw41

def k0_chk42 (v56 : IVec S16 32) (v171 : IVec S16 32) : Prop :=
  (∀ a x, ((![v56, v171] : Fin 2 → IVec S16 32) a x).toNat < S32x1024.size a)
theorem k0_idx42_inb : ∀ (v56 : IVec S16 32) (v171 : IVec S16 32) (k0_hw42 : k0_chk42 v56 v171), ∀ a x, ((![v56, v171] : Fin 2 → IVec S16 32) a x).toNat < S32x1024.size a := fun v56 v171 k0_hw42 => k0_hw42

def k0_chk43 (v56 : IVec S16 32) (v182 : IVec S16 32) : Prop :=
  (∀ a x, ((![v56, v182] : Fin 2 → IVec S16 32) a x).toNat < S32x1024.size a)
theorem k0_idx43_inb : ∀ (v56 : IVec S16 32) (v182 : IVec S16 32) (k0_hw43 : k0_chk43 v56 v182), ∀ a x, ((![v56, v182] : Fin 2 → IVec S16 32) a x).toNat < S32x1024.size a := fun v56 v182 k0_hw43 => k0_hw43

def k0_chk44 (v56 : IVec S16 32) (v193 : IVec S16 32) : Prop :=
  (∀ a x, ((![v56, v193] : Fin 2 → IVec S16 32) a x).toNat < S32x1024.size a)
theorem k0_idx44_inb : ∀ (v56 : IVec S16 32) (v193 : IVec S16 32) (k0_hw44 : k0_chk44 v56 v193), ∀ a x, ((![v56, v193] : Fin 2 → IVec S16 32) a x).toNat < S32x1024.size a := fun v56 v193 k0_hw44 => k0_hw44

def k0_chk45 (v56 : IVec S16 32) (v204 : IVec S16 32) : Prop :=
  (∀ a x, ((![v56, v204] : Fin 2 → IVec S16 32) a x).toNat < S32x1024.size a)
theorem k0_idx45_inb : ∀ (v56 : IVec S16 32) (v204 : IVec S16 32) (k0_hw45 : k0_chk45 v56 v204), ∀ a x, ((![v56, v204] : Fin 2 → IVec S16 32) a x).toNat < S32x1024.size a := fun v56 v204 k0_hw45 => k0_hw45

def k0_chk46 (v56 : IVec S16 32) (v215 : IVec S16 32) : Prop :=
  (∀ a x, ((![v56, v215] : Fin 2 → IVec S16 32) a x).toNat < S32x1024.size a)
theorem k0_idx46_inb : ∀ (v56 : IVec S16 32) (v215 : IVec S16 32) (k0_hw46 : k0_chk46 v56 v215), ∀ a x, ((![v56, v215] : Fin 2 → IVec S16 32) a x).toNat < S32x1024.size a := fun v56 v215 k0_hw46 => k0_hw46

def k0_chk47 (v56 : IVec S16 32) (v226 : IVec S16 32) : Prop :=
  (∀ a x, ((![v56, v226] : Fin 2 → IVec S16 32) a x).toNat < S32x1024.size a)
theorem k0_idx47_inb : ∀ (v56 : IVec S16 32) (v226 : IVec S16 32) (k0_hw47 : k0_chk47 v56 v226), ∀ a x, ((![v56, v226] : Fin 2 → IVec S16 32) a x).toNat < S32x1024.size a := fun v56 v226 k0_hw47 => k0_hw47

def k0_chk48 (v56 : IVec S16 32) (v237 : IVec S16 32) : Prop :=
  (∀ a x, ((![v56, v237] : Fin 2 → IVec S16 32) a x).toNat < S32x1024.size a)
theorem k0_idx48_inb : ∀ (v56 : IVec S16 32) (v237 : IVec S16 32) (k0_hw48 : k0_chk48 v56 v237), ∀ a x, ((![v56, v237] : Fin 2 → IVec S16 32) a x).toNat < S32x1024.size a := fun v56 v237 k0_hw48 => k0_hw48
def k0_off4 (k0_t5 : Fin k0_t5_loop.trips) : Fin 1 → Nat :=
  let c64_i32_79 : BitVec 32 := 64#32
  let c0_i32_26 : BitVec 32 := 0#32
  let c1_i32_28 : BitVec 32 := 1#32
  let arg9 : BitVec 32 := Scf.iv c0_i32_26 c1_i32_28 k0_t5
  let c16_i32_78 : BitVec 32 := 16#32
  let v62 : BitVec 32 := Scalar.muli arg9 c16_i32_78
  let v63 : BitVec 32 := Scalar.addi c64_i32_79 v62
  let v64 : Index := Scalar.indexCast v63
  ![v64.toNat]
@[reducible] def k0_t7_loop : Scf.Loop 32 :=
  let c0_i32_35 : BitVec 32 := 0#32
  let c2_i32_36 : BitVec 32 := 2#32
  let v32 : BitVec 32 := Scalar.addi c0_i32_35 c2_i32_36
  let c1_i32_37 : BitVec 32 := 1#32
  ⟨c0_i32_35, v32, c1_i32_37⟩
@[reducible] def k0_t8_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk49 (v56 : IVec S16 32) (v72 : IVec S16 32) : Prop :=
  (∀ a x, ((![v56, v72] : Fin 2 → IVec S16 32) a x).toNat < S32x1024.size a)
theorem k0_idx49_inb : ∀ (v56 : IVec S16 32) (v72 : IVec S16 32) (k0_hw49 : k0_chk49 v56 v72), ∀ a x, ((![v56, v72] : Fin 2 → IVec S16 32) a x).toNat < S32x1024.size a := fun v56 v72 k0_hw49 => k0_hw49

def k0_chk50 (v56 : IVec S16 32) (v83 : IVec S16 32) : Prop :=
  (∀ a x, ((![v56, v83] : Fin 2 → IVec S16 32) a x).toNat < S32x1024.size a)
theorem k0_idx50_inb : ∀ (v56 : IVec S16 32) (v83 : IVec S16 32) (k0_hw50 : k0_chk50 v56 v83), ∀ a x, ((![v56, v83] : Fin 2 → IVec S16 32) a x).toNat < S32x1024.size a := fun v56 v83 k0_hw50 => k0_hw50

def k0_chk51 (v56 : IVec S16 32) (v94 : IVec S16 32) : Prop :=
  (∀ a x, ((![v56, v94] : Fin 2 → IVec S16 32) a x).toNat < S32x1024.size a)
theorem k0_idx51_inb : ∀ (v56 : IVec S16 32) (v94 : IVec S16 32) (k0_hw51 : k0_chk51 v56 v94), ∀ a x, ((![v56, v94] : Fin 2 → IVec S16 32) a x).toNat < S32x1024.size a := fun v56 v94 k0_hw51 => k0_hw51

def k0_chk52 (v56 : IVec S16 32) (v105 : IVec S16 32) : Prop :=
  (∀ a x, ((![v56, v105] : Fin 2 → IVec S16 32) a x).toNat < S32x1024.size a)
theorem k0_idx52_inb : ∀ (v56 : IVec S16 32) (v105 : IVec S16 32) (k0_hw52 : k0_chk52 v56 v105), ∀ a x, ((![v56, v105] : Fin 2 → IVec S16 32) a x).toNat < S32x1024.size a := fun v56 v105 k0_hw52 => k0_hw52

def k0_chk53 (v56 : IVec S16 32) (v116 : IVec S16 32) : Prop :=
  (∀ a x, ((![v56, v116] : Fin 2 → IVec S16 32) a x).toNat < S32x1024.size a)
theorem k0_idx53_inb : ∀ (v56 : IVec S16 32) (v116 : IVec S16 32) (k0_hw53 : k0_chk53 v56 v116), ∀ a x, ((![v56, v116] : Fin 2 → IVec S16 32) a x).toNat < S32x1024.size a := fun v56 v116 k0_hw53 => k0_hw53

def k0_chk54 (v56 : IVec S16 32) (v127 : IVec S16 32) : Prop :=
  (∀ a x, ((![v56, v127] : Fin 2 → IVec S16 32) a x).toNat < S32x1024.size a)
theorem k0_idx54_inb : ∀ (v56 : IVec S16 32) (v127 : IVec S16 32) (k0_hw54 : k0_chk54 v56 v127), ∀ a x, ((![v56, v127] : Fin 2 → IVec S16 32) a x).toNat < S32x1024.size a := fun v56 v127 k0_hw54 => k0_hw54

def k0_chk55 (v56 : IVec S16 32) (v138 : IVec S16 32) : Prop :=
  (∀ a x, ((![v56, v138] : Fin 2 → IVec S16 32) a x).toNat < S32x1024.size a)
theorem k0_idx55_inb : ∀ (v56 : IVec S16 32) (v138 : IVec S16 32) (k0_hw55 : k0_chk55 v56 v138), ∀ a x, ((![v56, v138] : Fin 2 → IVec S16 32) a x).toNat < S32x1024.size a := fun v56 v138 k0_hw55 => k0_hw55

def k0_chk56 (v56 : IVec S16 32) (v149 : IVec S16 32) : Prop :=
  (∀ a x, ((![v56, v149] : Fin 2 → IVec S16 32) a x).toNat < S32x1024.size a)
theorem k0_idx56_inb : ∀ (v56 : IVec S16 32) (v149 : IVec S16 32) (k0_hw56 : k0_chk56 v56 v149), ∀ a x, ((![v56, v149] : Fin 2 → IVec S16 32) a x).toNat < S32x1024.size a := fun v56 v149 k0_hw56 => k0_hw56

def k0_chk57 (v56 : IVec S16 32) (v160 : IVec S16 32) : Prop :=
  (∀ a x, ((![v56, v160] : Fin 2 → IVec S16 32) a x).toNat < S32x1024.size a)
theorem k0_idx57_inb : ∀ (v56 : IVec S16 32) (v160 : IVec S16 32) (k0_hw57 : k0_chk57 v56 v160), ∀ a x, ((![v56, v160] : Fin 2 → IVec S16 32) a x).toNat < S32x1024.size a := fun v56 v160 k0_hw57 => k0_hw57

def k0_chk58 (v56 : IVec S16 32) (v171 : IVec S16 32) : Prop :=
  (∀ a x, ((![v56, v171] : Fin 2 → IVec S16 32) a x).toNat < S32x1024.size a)
theorem k0_idx58_inb : ∀ (v56 : IVec S16 32) (v171 : IVec S16 32) (k0_hw58 : k0_chk58 v56 v171), ∀ a x, ((![v56, v171] : Fin 2 → IVec S16 32) a x).toNat < S32x1024.size a := fun v56 v171 k0_hw58 => k0_hw58

def k0_chk59 (v56 : IVec S16 32) (v182 : IVec S16 32) : Prop :=
  (∀ a x, ((![v56, v182] : Fin 2 → IVec S16 32) a x).toNat < S32x1024.size a)
theorem k0_idx59_inb : ∀ (v56 : IVec S16 32) (v182 : IVec S16 32) (k0_hw59 : k0_chk59 v56 v182), ∀ a x, ((![v56, v182] : Fin 2 → IVec S16 32) a x).toNat < S32x1024.size a := fun v56 v182 k0_hw59 => k0_hw59

def k0_chk60 (v56 : IVec S16 32) (v193 : IVec S16 32) : Prop :=
  (∀ a x, ((![v56, v193] : Fin 2 → IVec S16 32) a x).toNat < S32x1024.size a)
theorem k0_idx60_inb : ∀ (v56 : IVec S16 32) (v193 : IVec S16 32) (k0_hw60 : k0_chk60 v56 v193), ∀ a x, ((![v56, v193] : Fin 2 → IVec S16 32) a x).toNat < S32x1024.size a := fun v56 v193 k0_hw60 => k0_hw60

def k0_chk61 (v56 : IVec S16 32) (v204 : IVec S16 32) : Prop :=
  (∀ a x, ((![v56, v204] : Fin 2 → IVec S16 32) a x).toNat < S32x1024.size a)
theorem k0_idx61_inb : ∀ (v56 : IVec S16 32) (v204 : IVec S16 32) (k0_hw61 : k0_chk61 v56 v204), ∀ a x, ((![v56, v204] : Fin 2 → IVec S16 32) a x).toNat < S32x1024.size a := fun v56 v204 k0_hw61 => k0_hw61

def k0_chk62 (v56 : IVec S16 32) (v215 : IVec S16 32) : Prop :=
  (∀ a x, ((![v56, v215] : Fin 2 → IVec S16 32) a x).toNat < S32x1024.size a)
theorem k0_idx62_inb : ∀ (v56 : IVec S16 32) (v215 : IVec S16 32) (k0_hw62 : k0_chk62 v56 v215), ∀ a x, ((![v56, v215] : Fin 2 → IVec S16 32) a x).toNat < S32x1024.size a := fun v56 v215 k0_hw62 => k0_hw62

def k0_chk63 (v56 : IVec S16 32) (v226 : IVec S16 32) : Prop :=
  (∀ a x, ((![v56, v226] : Fin 2 → IVec S16 32) a x).toNat < S32x1024.size a)
theorem k0_idx63_inb : ∀ (v56 : IVec S16 32) (v226 : IVec S16 32) (k0_hw63 : k0_chk63 v56 v226), ∀ a x, ((![v56, v226] : Fin 2 → IVec S16 32) a x).toNat < S32x1024.size a := fun v56 v226 k0_hw63 => k0_hw63

def k0_chk64 (v56 : IVec S16 32) (v237 : IVec S16 32) : Prop :=
  (∀ a x, ((![v56, v237] : Fin 2 → IVec S16 32) a x).toNat < S32x1024.size a)
theorem k0_idx64_inb : ∀ (v56 : IVec S16 32) (v237 : IVec S16 32) (k0_hw64 : k0_chk64 v56 v237), ∀ a x, ((![v56, v237] : Fin 2 → IVec S16 32) a x).toNat < S32x1024.size a := fun v56 v237 k0_hw64 => k0_hw64
def k0_off5 (k0_t7 : Fin k0_t7_loop.trips) : Fin 1 → Nat :=
  let c96_i32_79 : BitVec 32 := 96#32
  let c0_i32_35 : BitVec 32 := 0#32
  let c1_i32_37 : BitVec 32 := 1#32
  let arg9 : BitVec 32 := Scf.iv c0_i32_35 c1_i32_37 k0_t7
  let c16_i32_78 : BitVec 32 := 16#32
  let v62 : BitVec 32 := Scalar.muli arg9 c16_i32_78
  let v63 : BitVec 32 := Scalar.addi c96_i32_79 v62
  let v64 : Index := Scalar.indexCast v63
  ![v64.toNat]
@[reducible] def k0_t9_loop : Scf.Loop 32 :=
  let c0_i32_44 : BitVec 32 := 0#32
  let c2_i32_45 : BitVec 32 := 2#32
  let v38 : BitVec 32 := Scalar.addi c0_i32_44 c2_i32_45
  let c1_i32_46 : BitVec 32 := 1#32
  ⟨c0_i32_44, v38, c1_i32_46⟩
@[reducible] def k0_t10_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk65 (v56 : IVec S16 32) (v72 : IVec S16 32) : Prop :=
  (∀ a x, ((![v56, v72] : Fin 2 → IVec S16 32) a x).toNat < S32x1024.size a)
theorem k0_idx65_inb : ∀ (v56 : IVec S16 32) (v72 : IVec S16 32) (k0_hw65 : k0_chk65 v56 v72), ∀ a x, ((![v56, v72] : Fin 2 → IVec S16 32) a x).toNat < S32x1024.size a := fun v56 v72 k0_hw65 => k0_hw65

def k0_chk66 (v56 : IVec S16 32) (v83 : IVec S16 32) : Prop :=
  (∀ a x, ((![v56, v83] : Fin 2 → IVec S16 32) a x).toNat < S32x1024.size a)
theorem k0_idx66_inb : ∀ (v56 : IVec S16 32) (v83 : IVec S16 32) (k0_hw66 : k0_chk66 v56 v83), ∀ a x, ((![v56, v83] : Fin 2 → IVec S16 32) a x).toNat < S32x1024.size a := fun v56 v83 k0_hw66 => k0_hw66

def k0_chk67 (v56 : IVec S16 32) (v94 : IVec S16 32) : Prop :=
  (∀ a x, ((![v56, v94] : Fin 2 → IVec S16 32) a x).toNat < S32x1024.size a)
theorem k0_idx67_inb : ∀ (v56 : IVec S16 32) (v94 : IVec S16 32) (k0_hw67 : k0_chk67 v56 v94), ∀ a x, ((![v56, v94] : Fin 2 → IVec S16 32) a x).toNat < S32x1024.size a := fun v56 v94 k0_hw67 => k0_hw67

def k0_chk68 (v56 : IVec S16 32) (v105 : IVec S16 32) : Prop :=
  (∀ a x, ((![v56, v105] : Fin 2 → IVec S16 32) a x).toNat < S32x1024.size a)
theorem k0_idx68_inb : ∀ (v56 : IVec S16 32) (v105 : IVec S16 32) (k0_hw68 : k0_chk68 v56 v105), ∀ a x, ((![v56, v105] : Fin 2 → IVec S16 32) a x).toNat < S32x1024.size a := fun v56 v105 k0_hw68 => k0_hw68

def k0_chk69 (v56 : IVec S16 32) (v116 : IVec S16 32) : Prop :=
  (∀ a x, ((![v56, v116] : Fin 2 → IVec S16 32) a x).toNat < S32x1024.size a)
theorem k0_idx69_inb : ∀ (v56 : IVec S16 32) (v116 : IVec S16 32) (k0_hw69 : k0_chk69 v56 v116), ∀ a x, ((![v56, v116] : Fin 2 → IVec S16 32) a x).toNat < S32x1024.size a := fun v56 v116 k0_hw69 => k0_hw69

def k0_chk70 (v56 : IVec S16 32) (v127 : IVec S16 32) : Prop :=
  (∀ a x, ((![v56, v127] : Fin 2 → IVec S16 32) a x).toNat < S32x1024.size a)
theorem k0_idx70_inb : ∀ (v56 : IVec S16 32) (v127 : IVec S16 32) (k0_hw70 : k0_chk70 v56 v127), ∀ a x, ((![v56, v127] : Fin 2 → IVec S16 32) a x).toNat < S32x1024.size a := fun v56 v127 k0_hw70 => k0_hw70

def k0_chk71 (v56 : IVec S16 32) (v138 : IVec S16 32) : Prop :=
  (∀ a x, ((![v56, v138] : Fin 2 → IVec S16 32) a x).toNat < S32x1024.size a)
theorem k0_idx71_inb : ∀ (v56 : IVec S16 32) (v138 : IVec S16 32) (k0_hw71 : k0_chk71 v56 v138), ∀ a x, ((![v56, v138] : Fin 2 → IVec S16 32) a x).toNat < S32x1024.size a := fun v56 v138 k0_hw71 => k0_hw71

def k0_chk72 (v56 : IVec S16 32) (v149 : IVec S16 32) : Prop :=
  (∀ a x, ((![v56, v149] : Fin 2 → IVec S16 32) a x).toNat < S32x1024.size a)
theorem k0_idx72_inb : ∀ (v56 : IVec S16 32) (v149 : IVec S16 32) (k0_hw72 : k0_chk72 v56 v149), ∀ a x, ((![v56, v149] : Fin 2 → IVec S16 32) a x).toNat < S32x1024.size a := fun v56 v149 k0_hw72 => k0_hw72

def k0_chk73 (v56 : IVec S16 32) (v160 : IVec S16 32) : Prop :=
  (∀ a x, ((![v56, v160] : Fin 2 → IVec S16 32) a x).toNat < S32x1024.size a)
theorem k0_idx73_inb : ∀ (v56 : IVec S16 32) (v160 : IVec S16 32) (k0_hw73 : k0_chk73 v56 v160), ∀ a x, ((![v56, v160] : Fin 2 → IVec S16 32) a x).toNat < S32x1024.size a := fun v56 v160 k0_hw73 => k0_hw73

def k0_chk74 (v56 : IVec S16 32) (v171 : IVec S16 32) : Prop :=
  (∀ a x, ((![v56, v171] : Fin 2 → IVec S16 32) a x).toNat < S32x1024.size a)
theorem k0_idx74_inb : ∀ (v56 : IVec S16 32) (v171 : IVec S16 32) (k0_hw74 : k0_chk74 v56 v171), ∀ a x, ((![v56, v171] : Fin 2 → IVec S16 32) a x).toNat < S32x1024.size a := fun v56 v171 k0_hw74 => k0_hw74

def k0_chk75 (v56 : IVec S16 32) (v182 : IVec S16 32) : Prop :=
  (∀ a x, ((![v56, v182] : Fin 2 → IVec S16 32) a x).toNat < S32x1024.size a)
theorem k0_idx75_inb : ∀ (v56 : IVec S16 32) (v182 : IVec S16 32) (k0_hw75 : k0_chk75 v56 v182), ∀ a x, ((![v56, v182] : Fin 2 → IVec S16 32) a x).toNat < S32x1024.size a := fun v56 v182 k0_hw75 => k0_hw75

def k0_chk76 (v56 : IVec S16 32) (v193 : IVec S16 32) : Prop :=
  (∀ a x, ((![v56, v193] : Fin 2 → IVec S16 32) a x).toNat < S32x1024.size a)
theorem k0_idx76_inb : ∀ (v56 : IVec S16 32) (v193 : IVec S16 32) (k0_hw76 : k0_chk76 v56 v193), ∀ a x, ((![v56, v193] : Fin 2 → IVec S16 32) a x).toNat < S32x1024.size a := fun v56 v193 k0_hw76 => k0_hw76

def k0_chk77 (v56 : IVec S16 32) (v204 : IVec S16 32) : Prop :=
  (∀ a x, ((![v56, v204] : Fin 2 → IVec S16 32) a x).toNat < S32x1024.size a)
theorem k0_idx77_inb : ∀ (v56 : IVec S16 32) (v204 : IVec S16 32) (k0_hw77 : k0_chk77 v56 v204), ∀ a x, ((![v56, v204] : Fin 2 → IVec S16 32) a x).toNat < S32x1024.size a := fun v56 v204 k0_hw77 => k0_hw77

def k0_chk78 (v56 : IVec S16 32) (v215 : IVec S16 32) : Prop :=
  (∀ a x, ((![v56, v215] : Fin 2 → IVec S16 32) a x).toNat < S32x1024.size a)
theorem k0_idx78_inb : ∀ (v56 : IVec S16 32) (v215 : IVec S16 32) (k0_hw78 : k0_chk78 v56 v215), ∀ a x, ((![v56, v215] : Fin 2 → IVec S16 32) a x).toNat < S32x1024.size a := fun v56 v215 k0_hw78 => k0_hw78

def k0_chk79 (v56 : IVec S16 32) (v226 : IVec S16 32) : Prop :=
  (∀ a x, ((![v56, v226] : Fin 2 → IVec S16 32) a x).toNat < S32x1024.size a)
theorem k0_idx79_inb : ∀ (v56 : IVec S16 32) (v226 : IVec S16 32) (k0_hw79 : k0_chk79 v56 v226), ∀ a x, ((![v56, v226] : Fin 2 → IVec S16 32) a x).toNat < S32x1024.size a := fun v56 v226 k0_hw79 => k0_hw79

def k0_chk80 (v56 : IVec S16 32) (v237 : IVec S16 32) : Prop :=
  (∀ a x, ((![v56, v237] : Fin 2 → IVec S16 32) a x).toNat < S32x1024.size a)
theorem k0_idx80_inb : ∀ (v56 : IVec S16 32) (v237 : IVec S16 32) (k0_hw80 : k0_chk80 v56 v237), ∀ a x, ((![v56, v237] : Fin 2 → IVec S16 32) a x).toNat < S32x1024.size a := fun v56 v237 k0_hw80 => k0_hw80
def k0_off6 (k0_t9 : Fin k0_t9_loop.trips) : Fin 1 → Nat :=
  let c128_i32_79 : BitVec 32 := 128#32
  let c0_i32_44 : BitVec 32 := 0#32
  let c1_i32_46 : BitVec 32 := 1#32
  let arg9 : BitVec 32 := Scf.iv c0_i32_44 c1_i32_46 k0_t9
  let c16_i32_78 : BitVec 32 := 16#32
  let v62 : BitVec 32 := Scalar.muli arg9 c16_i32_78
  let v63 : BitVec 32 := Scalar.addi c128_i32_79 v62
  let v64 : Index := Scalar.indexCast v63
  ![v64.toNat]
@[reducible] def k0_t11_loop : Scf.Loop 32 :=
  let c0_i32_53 : BitVec 32 := 0#32
  let c2_i32_54 : BitVec 32 := 2#32
  let v44 : BitVec 32 := Scalar.addi c0_i32_53 c2_i32_54
  let c1_i32_55 : BitVec 32 := 1#32
  ⟨c0_i32_53, v44, c1_i32_55⟩
@[reducible] def k0_t12_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk81 (v56 : IVec S16 32) (v72 : IVec S16 32) : Prop :=
  (∀ a x, ((![v56, v72] : Fin 2 → IVec S16 32) a x).toNat < S32x1024.size a)
theorem k0_idx81_inb : ∀ (v56 : IVec S16 32) (v72 : IVec S16 32) (k0_hw81 : k0_chk81 v56 v72), ∀ a x, ((![v56, v72] : Fin 2 → IVec S16 32) a x).toNat < S32x1024.size a := fun v56 v72 k0_hw81 => k0_hw81

def k0_chk82 (v56 : IVec S16 32) (v83 : IVec S16 32) : Prop :=
  (∀ a x, ((![v56, v83] : Fin 2 → IVec S16 32) a x).toNat < S32x1024.size a)
theorem k0_idx82_inb : ∀ (v56 : IVec S16 32) (v83 : IVec S16 32) (k0_hw82 : k0_chk82 v56 v83), ∀ a x, ((![v56, v83] : Fin 2 → IVec S16 32) a x).toNat < S32x1024.size a := fun v56 v83 k0_hw82 => k0_hw82

def k0_chk83 (v56 : IVec S16 32) (v94 : IVec S16 32) : Prop :=
  (∀ a x, ((![v56, v94] : Fin 2 → IVec S16 32) a x).toNat < S32x1024.size a)
theorem k0_idx83_inb : ∀ (v56 : IVec S16 32) (v94 : IVec S16 32) (k0_hw83 : k0_chk83 v56 v94), ∀ a x, ((![v56, v94] : Fin 2 → IVec S16 32) a x).toNat < S32x1024.size a := fun v56 v94 k0_hw83 => k0_hw83

def k0_chk84 (v56 : IVec S16 32) (v105 : IVec S16 32) : Prop :=
  (∀ a x, ((![v56, v105] : Fin 2 → IVec S16 32) a x).toNat < S32x1024.size a)
theorem k0_idx84_inb : ∀ (v56 : IVec S16 32) (v105 : IVec S16 32) (k0_hw84 : k0_chk84 v56 v105), ∀ a x, ((![v56, v105] : Fin 2 → IVec S16 32) a x).toNat < S32x1024.size a := fun v56 v105 k0_hw84 => k0_hw84

def k0_chk85 (v56 : IVec S16 32) (v116 : IVec S16 32) : Prop :=
  (∀ a x, ((![v56, v116] : Fin 2 → IVec S16 32) a x).toNat < S32x1024.size a)
theorem k0_idx85_inb : ∀ (v56 : IVec S16 32) (v116 : IVec S16 32) (k0_hw85 : k0_chk85 v56 v116), ∀ a x, ((![v56, v116] : Fin 2 → IVec S16 32) a x).toNat < S32x1024.size a := fun v56 v116 k0_hw85 => k0_hw85

def k0_chk86 (v56 : IVec S16 32) (v127 : IVec S16 32) : Prop :=
  (∀ a x, ((![v56, v127] : Fin 2 → IVec S16 32) a x).toNat < S32x1024.size a)
theorem k0_idx86_inb : ∀ (v56 : IVec S16 32) (v127 : IVec S16 32) (k0_hw86 : k0_chk86 v56 v127), ∀ a x, ((![v56, v127] : Fin 2 → IVec S16 32) a x).toNat < S32x1024.size a := fun v56 v127 k0_hw86 => k0_hw86

def k0_chk87 (v56 : IVec S16 32) (v138 : IVec S16 32) : Prop :=
  (∀ a x, ((![v56, v138] : Fin 2 → IVec S16 32) a x).toNat < S32x1024.size a)
theorem k0_idx87_inb : ∀ (v56 : IVec S16 32) (v138 : IVec S16 32) (k0_hw87 : k0_chk87 v56 v138), ∀ a x, ((![v56, v138] : Fin 2 → IVec S16 32) a x).toNat < S32x1024.size a := fun v56 v138 k0_hw87 => k0_hw87

def k0_chk88 (v56 : IVec S16 32) (v149 : IVec S16 32) : Prop :=
  (∀ a x, ((![v56, v149] : Fin 2 → IVec S16 32) a x).toNat < S32x1024.size a)
theorem k0_idx88_inb : ∀ (v56 : IVec S16 32) (v149 : IVec S16 32) (k0_hw88 : k0_chk88 v56 v149), ∀ a x, ((![v56, v149] : Fin 2 → IVec S16 32) a x).toNat < S32x1024.size a := fun v56 v149 k0_hw88 => k0_hw88

def k0_chk89 (v56 : IVec S16 32) (v160 : IVec S16 32) : Prop :=
  (∀ a x, ((![v56, v160] : Fin 2 → IVec S16 32) a x).toNat < S32x1024.size a)
theorem k0_idx89_inb : ∀ (v56 : IVec S16 32) (v160 : IVec S16 32) (k0_hw89 : k0_chk89 v56 v160), ∀ a x, ((![v56, v160] : Fin 2 → IVec S16 32) a x).toNat < S32x1024.size a := fun v56 v160 k0_hw89 => k0_hw89

def k0_chk90 (v56 : IVec S16 32) (v171 : IVec S16 32) : Prop :=
  (∀ a x, ((![v56, v171] : Fin 2 → IVec S16 32) a x).toNat < S32x1024.size a)
theorem k0_idx90_inb : ∀ (v56 : IVec S16 32) (v171 : IVec S16 32) (k0_hw90 : k0_chk90 v56 v171), ∀ a x, ((![v56, v171] : Fin 2 → IVec S16 32) a x).toNat < S32x1024.size a := fun v56 v171 k0_hw90 => k0_hw90

def k0_chk91 (v56 : IVec S16 32) (v182 : IVec S16 32) : Prop :=
  (∀ a x, ((![v56, v182] : Fin 2 → IVec S16 32) a x).toNat < S32x1024.size a)
theorem k0_idx91_inb : ∀ (v56 : IVec S16 32) (v182 : IVec S16 32) (k0_hw91 : k0_chk91 v56 v182), ∀ a x, ((![v56, v182] : Fin 2 → IVec S16 32) a x).toNat < S32x1024.size a := fun v56 v182 k0_hw91 => k0_hw91

def k0_chk92 (v56 : IVec S16 32) (v193 : IVec S16 32) : Prop :=
  (∀ a x, ((![v56, v193] : Fin 2 → IVec S16 32) a x).toNat < S32x1024.size a)
theorem k0_idx92_inb : ∀ (v56 : IVec S16 32) (v193 : IVec S16 32) (k0_hw92 : k0_chk92 v56 v193), ∀ a x, ((![v56, v193] : Fin 2 → IVec S16 32) a x).toNat < S32x1024.size a := fun v56 v193 k0_hw92 => k0_hw92

def k0_chk93 (v56 : IVec S16 32) (v204 : IVec S16 32) : Prop :=
  (∀ a x, ((![v56, v204] : Fin 2 → IVec S16 32) a x).toNat < S32x1024.size a)
theorem k0_idx93_inb : ∀ (v56 : IVec S16 32) (v204 : IVec S16 32) (k0_hw93 : k0_chk93 v56 v204), ∀ a x, ((![v56, v204] : Fin 2 → IVec S16 32) a x).toNat < S32x1024.size a := fun v56 v204 k0_hw93 => k0_hw93

def k0_chk94 (v56 : IVec S16 32) (v215 : IVec S16 32) : Prop :=
  (∀ a x, ((![v56, v215] : Fin 2 → IVec S16 32) a x).toNat < S32x1024.size a)
theorem k0_idx94_inb : ∀ (v56 : IVec S16 32) (v215 : IVec S16 32) (k0_hw94 : k0_chk94 v56 v215), ∀ a x, ((![v56, v215] : Fin 2 → IVec S16 32) a x).toNat < S32x1024.size a := fun v56 v215 k0_hw94 => k0_hw94

def k0_chk95 (v56 : IVec S16 32) (v226 : IVec S16 32) : Prop :=
  (∀ a x, ((![v56, v226] : Fin 2 → IVec S16 32) a x).toNat < S32x1024.size a)
theorem k0_idx95_inb : ∀ (v56 : IVec S16 32) (v226 : IVec S16 32) (k0_hw95 : k0_chk95 v56 v226), ∀ a x, ((![v56, v226] : Fin 2 → IVec S16 32) a x).toNat < S32x1024.size a := fun v56 v226 k0_hw95 => k0_hw95

def k0_chk96 (v56 : IVec S16 32) (v237 : IVec S16 32) : Prop :=
  (∀ a x, ((![v56, v237] : Fin 2 → IVec S16 32) a x).toNat < S32x1024.size a)
theorem k0_idx96_inb : ∀ (v56 : IVec S16 32) (v237 : IVec S16 32) (k0_hw96 : k0_chk96 v56 v237), ∀ a x, ((![v56, v237] : Fin 2 → IVec S16 32) a x).toNat < S32x1024.size a := fun v56 v237 k0_hw96 => k0_hw96
def k0_off7 (k0_t11 : Fin k0_t11_loop.trips) : Fin 1 → Nat :=
  let c160_i32_79 : BitVec 32 := 160#32
  let c0_i32_53 : BitVec 32 := 0#32
  let c1_i32_55 : BitVec 32 := 1#32
  let arg9 : BitVec 32 := Scf.iv c0_i32_53 c1_i32_55 k0_t11
  let c16_i32_78 : BitVec 32 := 16#32
  let v62 : BitVec 32 := Scalar.muli arg9 c16_i32_78
  let v63 : BitVec 32 := Scalar.addi c160_i32_79 v62
  let v64 : Index := Scalar.indexCast v63
  ![v64.toNat]
@[reducible] def k0_t13_loop : Scf.Loop 32 :=
  let c0_i32_62 : BitVec 32 := 0#32
  let c2_i32_63 : BitVec 32 := 2#32
  let v50 : BitVec 32 := Scalar.addi c0_i32_62 c2_i32_63
  let c1_i32_64 : BitVec 32 := 1#32
  ⟨c0_i32_62, v50, c1_i32_64⟩
@[reducible] def k0_t14_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk97 (v56 : IVec S16 32) (v72 : IVec S16 32) : Prop :=
  (∀ a x, ((![v56, v72] : Fin 2 → IVec S16 32) a x).toNat < S32x1024.size a)
theorem k0_idx97_inb : ∀ (v56 : IVec S16 32) (v72 : IVec S16 32) (k0_hw97 : k0_chk97 v56 v72), ∀ a x, ((![v56, v72] : Fin 2 → IVec S16 32) a x).toNat < S32x1024.size a := fun v56 v72 k0_hw97 => k0_hw97

def k0_chk98 (v56 : IVec S16 32) (v83 : IVec S16 32) : Prop :=
  (∀ a x, ((![v56, v83] : Fin 2 → IVec S16 32) a x).toNat < S32x1024.size a)
theorem k0_idx98_inb : ∀ (v56 : IVec S16 32) (v83 : IVec S16 32) (k0_hw98 : k0_chk98 v56 v83), ∀ a x, ((![v56, v83] : Fin 2 → IVec S16 32) a x).toNat < S32x1024.size a := fun v56 v83 k0_hw98 => k0_hw98

def k0_chk99 (v56 : IVec S16 32) (v94 : IVec S16 32) : Prop :=
  (∀ a x, ((![v56, v94] : Fin 2 → IVec S16 32) a x).toNat < S32x1024.size a)
theorem k0_idx99_inb : ∀ (v56 : IVec S16 32) (v94 : IVec S16 32) (k0_hw99 : k0_chk99 v56 v94), ∀ a x, ((![v56, v94] : Fin 2 → IVec S16 32) a x).toNat < S32x1024.size a := fun v56 v94 k0_hw99 => k0_hw99

def k0_chk100 (v56 : IVec S16 32) (v105 : IVec S16 32) : Prop :=
  (∀ a x, ((![v56, v105] : Fin 2 → IVec S16 32) a x).toNat < S32x1024.size a)
theorem k0_idx100_inb : ∀ (v56 : IVec S16 32) (v105 : IVec S16 32) (k0_hw100 : k0_chk100 v56 v105), ∀ a x, ((![v56, v105] : Fin 2 → IVec S16 32) a x).toNat < S32x1024.size a := fun v56 v105 k0_hw100 => k0_hw100

def k0_chk101 (v56 : IVec S16 32) (v116 : IVec S16 32) : Prop :=
  (∀ a x, ((![v56, v116] : Fin 2 → IVec S16 32) a x).toNat < S32x1024.size a)
theorem k0_idx101_inb : ∀ (v56 : IVec S16 32) (v116 : IVec S16 32) (k0_hw101 : k0_chk101 v56 v116), ∀ a x, ((![v56, v116] : Fin 2 → IVec S16 32) a x).toNat < S32x1024.size a := fun v56 v116 k0_hw101 => k0_hw101

def k0_chk102 (v56 : IVec S16 32) (v127 : IVec S16 32) : Prop :=
  (∀ a x, ((![v56, v127] : Fin 2 → IVec S16 32) a x).toNat < S32x1024.size a)
theorem k0_idx102_inb : ∀ (v56 : IVec S16 32) (v127 : IVec S16 32) (k0_hw102 : k0_chk102 v56 v127), ∀ a x, ((![v56, v127] : Fin 2 → IVec S16 32) a x).toNat < S32x1024.size a := fun v56 v127 k0_hw102 => k0_hw102

def k0_chk103 (v56 : IVec S16 32) (v138 : IVec S16 32) : Prop :=
  (∀ a x, ((![v56, v138] : Fin 2 → IVec S16 32) a x).toNat < S32x1024.size a)
theorem k0_idx103_inb : ∀ (v56 : IVec S16 32) (v138 : IVec S16 32) (k0_hw103 : k0_chk103 v56 v138), ∀ a x, ((![v56, v138] : Fin 2 → IVec S16 32) a x).toNat < S32x1024.size a := fun v56 v138 k0_hw103 => k0_hw103

def k0_chk104 (v56 : IVec S16 32) (v149 : IVec S16 32) : Prop :=
  (∀ a x, ((![v56, v149] : Fin 2 → IVec S16 32) a x).toNat < S32x1024.size a)
theorem k0_idx104_inb : ∀ (v56 : IVec S16 32) (v149 : IVec S16 32) (k0_hw104 : k0_chk104 v56 v149), ∀ a x, ((![v56, v149] : Fin 2 → IVec S16 32) a x).toNat < S32x1024.size a := fun v56 v149 k0_hw104 => k0_hw104

def k0_chk105 (v56 : IVec S16 32) (v160 : IVec S16 32) : Prop :=
  (∀ a x, ((![v56, v160] : Fin 2 → IVec S16 32) a x).toNat < S32x1024.size a)
theorem k0_idx105_inb : ∀ (v56 : IVec S16 32) (v160 : IVec S16 32) (k0_hw105 : k0_chk105 v56 v160), ∀ a x, ((![v56, v160] : Fin 2 → IVec S16 32) a x).toNat < S32x1024.size a := fun v56 v160 k0_hw105 => k0_hw105

def k0_chk106 (v56 : IVec S16 32) (v171 : IVec S16 32) : Prop :=
  (∀ a x, ((![v56, v171] : Fin 2 → IVec S16 32) a x).toNat < S32x1024.size a)
theorem k0_idx106_inb : ∀ (v56 : IVec S16 32) (v171 : IVec S16 32) (k0_hw106 : k0_chk106 v56 v171), ∀ a x, ((![v56, v171] : Fin 2 → IVec S16 32) a x).toNat < S32x1024.size a := fun v56 v171 k0_hw106 => k0_hw106

def k0_chk107 (v56 : IVec S16 32) (v182 : IVec S16 32) : Prop :=
  (∀ a x, ((![v56, v182] : Fin 2 → IVec S16 32) a x).toNat < S32x1024.size a)
theorem k0_idx107_inb : ∀ (v56 : IVec S16 32) (v182 : IVec S16 32) (k0_hw107 : k0_chk107 v56 v182), ∀ a x, ((![v56, v182] : Fin 2 → IVec S16 32) a x).toNat < S32x1024.size a := fun v56 v182 k0_hw107 => k0_hw107

def k0_chk108 (v56 : IVec S16 32) (v193 : IVec S16 32) : Prop :=
  (∀ a x, ((![v56, v193] : Fin 2 → IVec S16 32) a x).toNat < S32x1024.size a)
theorem k0_idx108_inb : ∀ (v56 : IVec S16 32) (v193 : IVec S16 32) (k0_hw108 : k0_chk108 v56 v193), ∀ a x, ((![v56, v193] : Fin 2 → IVec S16 32) a x).toNat < S32x1024.size a := fun v56 v193 k0_hw108 => k0_hw108

def k0_chk109 (v56 : IVec S16 32) (v204 : IVec S16 32) : Prop :=
  (∀ a x, ((![v56, v204] : Fin 2 → IVec S16 32) a x).toNat < S32x1024.size a)
theorem k0_idx109_inb : ∀ (v56 : IVec S16 32) (v204 : IVec S16 32) (k0_hw109 : k0_chk109 v56 v204), ∀ a x, ((![v56, v204] : Fin 2 → IVec S16 32) a x).toNat < S32x1024.size a := fun v56 v204 k0_hw109 => k0_hw109

def k0_chk110 (v56 : IVec S16 32) (v215 : IVec S16 32) : Prop :=
  (∀ a x, ((![v56, v215] : Fin 2 → IVec S16 32) a x).toNat < S32x1024.size a)
theorem k0_idx110_inb : ∀ (v56 : IVec S16 32) (v215 : IVec S16 32) (k0_hw110 : k0_chk110 v56 v215), ∀ a x, ((![v56, v215] : Fin 2 → IVec S16 32) a x).toNat < S32x1024.size a := fun v56 v215 k0_hw110 => k0_hw110

def k0_chk111 (v56 : IVec S16 32) (v226 : IVec S16 32) : Prop :=
  (∀ a x, ((![v56, v226] : Fin 2 → IVec S16 32) a x).toNat < S32x1024.size a)
theorem k0_idx111_inb : ∀ (v56 : IVec S16 32) (v226 : IVec S16 32) (k0_hw111 : k0_chk111 v56 v226), ∀ a x, ((![v56, v226] : Fin 2 → IVec S16 32) a x).toNat < S32x1024.size a := fun v56 v226 k0_hw111 => k0_hw111

def k0_chk112 (v56 : IVec S16 32) (v237 : IVec S16 32) : Prop :=
  (∀ a x, ((![v56, v237] : Fin 2 → IVec S16 32) a x).toNat < S32x1024.size a)
theorem k0_idx112_inb : ∀ (v56 : IVec S16 32) (v237 : IVec S16 32) (k0_hw112 : k0_chk112 v56 v237), ∀ a x, ((![v56, v237] : Fin 2 → IVec S16 32) a x).toNat < S32x1024.size a := fun v56 v237 k0_hw112 => k0_hw112
def k0_off8 (k0_t13 : Fin k0_t13_loop.trips) : Fin 1 → Nat :=
  let c192_i32_79 : BitVec 32 := 192#32
  let c0_i32_62 : BitVec 32 := 0#32
  let c1_i32_64 : BitVec 32 := 1#32
  let arg9 : BitVec 32 := Scf.iv c0_i32_62 c1_i32_64 k0_t13
  let c16_i32_78 : BitVec 32 := 16#32
  let v62 : BitVec 32 := Scalar.muli arg9 c16_i32_78
  let v63 : BitVec 32 := Scalar.addi c192_i32_79 v62
  let v64 : Index := Scalar.indexCast v63
  ![v64.toNat]
@[reducible] def k0_t15_loop : Scf.Loop 32 :=
  let c0_i32_69 : BitVec 32 := 0#32
  let c2_i32_70 : BitVec 32 := 2#32
  let v53 : BitVec 32 := Scalar.addi c0_i32_69 c2_i32_70
  let c1_i32_71 : BitVec 32 := 1#32
  ⟨c0_i32_69, v53, c1_i32_71⟩
@[reducible] def k0_t16_loop : Scf.Loop 32 :=
  let c0_i32_74 : BitVec 32 := 0#32
  let c64_i32_75 : BitVec 32 := 64#32
  let v58 : BitVec 32 := Scalar.addi c0_i32_74 c64_i32_75
  let c1_i32_76 : BitVec 32 := 1#32
  ⟨c0_i32_74, v58, c1_i32_76⟩

def k0_chk113 (v56 : IVec S16 32) (v72 : IVec S16 32) : Prop :=
  (∀ a x, ((![v56, v72] : Fin 2 → IVec S16 32) a x).toNat < S32x1024.size a)
theorem k0_idx113_inb : ∀ (v56 : IVec S16 32) (v72 : IVec S16 32) (k0_hw113 : k0_chk113 v56 v72), ∀ a x, ((![v56, v72] : Fin 2 → IVec S16 32) a x).toNat < S32x1024.size a := fun v56 v72 k0_hw113 => k0_hw113

def k0_chk114 (v56 : IVec S16 32) (v83 : IVec S16 32) : Prop :=
  (∀ a x, ((![v56, v83] : Fin 2 → IVec S16 32) a x).toNat < S32x1024.size a)
theorem k0_idx114_inb : ∀ (v56 : IVec S16 32) (v83 : IVec S16 32) (k0_hw114 : k0_chk114 v56 v83), ∀ a x, ((![v56, v83] : Fin 2 → IVec S16 32) a x).toNat < S32x1024.size a := fun v56 v83 k0_hw114 => k0_hw114

def k0_chk115 (v56 : IVec S16 32) (v94 : IVec S16 32) : Prop :=
  (∀ a x, ((![v56, v94] : Fin 2 → IVec S16 32) a x).toNat < S32x1024.size a)
theorem k0_idx115_inb : ∀ (v56 : IVec S16 32) (v94 : IVec S16 32) (k0_hw115 : k0_chk115 v56 v94), ∀ a x, ((![v56, v94] : Fin 2 → IVec S16 32) a x).toNat < S32x1024.size a := fun v56 v94 k0_hw115 => k0_hw115

def k0_chk116 (v56 : IVec S16 32) (v105 : IVec S16 32) : Prop :=
  (∀ a x, ((![v56, v105] : Fin 2 → IVec S16 32) a x).toNat < S32x1024.size a)
theorem k0_idx116_inb : ∀ (v56 : IVec S16 32) (v105 : IVec S16 32) (k0_hw116 : k0_chk116 v56 v105), ∀ a x, ((![v56, v105] : Fin 2 → IVec S16 32) a x).toNat < S32x1024.size a := fun v56 v105 k0_hw116 => k0_hw116

def k0_chk117 (v56 : IVec S16 32) (v116 : IVec S16 32) : Prop :=
  (∀ a x, ((![v56, v116] : Fin 2 → IVec S16 32) a x).toNat < S32x1024.size a)
theorem k0_idx117_inb : ∀ (v56 : IVec S16 32) (v116 : IVec S16 32) (k0_hw117 : k0_chk117 v56 v116), ∀ a x, ((![v56, v116] : Fin 2 → IVec S16 32) a x).toNat < S32x1024.size a := fun v56 v116 k0_hw117 => k0_hw117

def k0_chk118 (v56 : IVec S16 32) (v127 : IVec S16 32) : Prop :=
  (∀ a x, ((![v56, v127] : Fin 2 → IVec S16 32) a x).toNat < S32x1024.size a)
theorem k0_idx118_inb : ∀ (v56 : IVec S16 32) (v127 : IVec S16 32) (k0_hw118 : k0_chk118 v56 v127), ∀ a x, ((![v56, v127] : Fin 2 → IVec S16 32) a x).toNat < S32x1024.size a := fun v56 v127 k0_hw118 => k0_hw118

def k0_chk119 (v56 : IVec S16 32) (v138 : IVec S16 32) : Prop :=
  (∀ a x, ((![v56, v138] : Fin 2 → IVec S16 32) a x).toNat < S32x1024.size a)
theorem k0_idx119_inb : ∀ (v56 : IVec S16 32) (v138 : IVec S16 32) (k0_hw119 : k0_chk119 v56 v138), ∀ a x, ((![v56, v138] : Fin 2 → IVec S16 32) a x).toNat < S32x1024.size a := fun v56 v138 k0_hw119 => k0_hw119

def k0_chk120 (v56 : IVec S16 32) (v149 : IVec S16 32) : Prop :=
  (∀ a x, ((![v56, v149] : Fin 2 → IVec S16 32) a x).toNat < S32x1024.size a)
theorem k0_idx120_inb : ∀ (v56 : IVec S16 32) (v149 : IVec S16 32) (k0_hw120 : k0_chk120 v56 v149), ∀ a x, ((![v56, v149] : Fin 2 → IVec S16 32) a x).toNat < S32x1024.size a := fun v56 v149 k0_hw120 => k0_hw120

def k0_chk121 (v56 : IVec S16 32) (v160 : IVec S16 32) : Prop :=
  (∀ a x, ((![v56, v160] : Fin 2 → IVec S16 32) a x).toNat < S32x1024.size a)
theorem k0_idx121_inb : ∀ (v56 : IVec S16 32) (v160 : IVec S16 32) (k0_hw121 : k0_chk121 v56 v160), ∀ a x, ((![v56, v160] : Fin 2 → IVec S16 32) a x).toNat < S32x1024.size a := fun v56 v160 k0_hw121 => k0_hw121

def k0_chk122 (v56 : IVec S16 32) (v171 : IVec S16 32) : Prop :=
  (∀ a x, ((![v56, v171] : Fin 2 → IVec S16 32) a x).toNat < S32x1024.size a)
theorem k0_idx122_inb : ∀ (v56 : IVec S16 32) (v171 : IVec S16 32) (k0_hw122 : k0_chk122 v56 v171), ∀ a x, ((![v56, v171] : Fin 2 → IVec S16 32) a x).toNat < S32x1024.size a := fun v56 v171 k0_hw122 => k0_hw122

def k0_chk123 (v56 : IVec S16 32) (v182 : IVec S16 32) : Prop :=
  (∀ a x, ((![v56, v182] : Fin 2 → IVec S16 32) a x).toNat < S32x1024.size a)
theorem k0_idx123_inb : ∀ (v56 : IVec S16 32) (v182 : IVec S16 32) (k0_hw123 : k0_chk123 v56 v182), ∀ a x, ((![v56, v182] : Fin 2 → IVec S16 32) a x).toNat < S32x1024.size a := fun v56 v182 k0_hw123 => k0_hw123

def k0_chk124 (v56 : IVec S16 32) (v193 : IVec S16 32) : Prop :=
  (∀ a x, ((![v56, v193] : Fin 2 → IVec S16 32) a x).toNat < S32x1024.size a)
theorem k0_idx124_inb : ∀ (v56 : IVec S16 32) (v193 : IVec S16 32) (k0_hw124 : k0_chk124 v56 v193), ∀ a x, ((![v56, v193] : Fin 2 → IVec S16 32) a x).toNat < S32x1024.size a := fun v56 v193 k0_hw124 => k0_hw124

def k0_chk125 (v56 : IVec S16 32) (v204 : IVec S16 32) : Prop :=
  (∀ a x, ((![v56, v204] : Fin 2 → IVec S16 32) a x).toNat < S32x1024.size a)
theorem k0_idx125_inb : ∀ (v56 : IVec S16 32) (v204 : IVec S16 32) (k0_hw125 : k0_chk125 v56 v204), ∀ a x, ((![v56, v204] : Fin 2 → IVec S16 32) a x).toNat < S32x1024.size a := fun v56 v204 k0_hw125 => k0_hw125

def k0_chk126 (v56 : IVec S16 32) (v215 : IVec S16 32) : Prop :=
  (∀ a x, ((![v56, v215] : Fin 2 → IVec S16 32) a x).toNat < S32x1024.size a)
theorem k0_idx126_inb : ∀ (v56 : IVec S16 32) (v215 : IVec S16 32) (k0_hw126 : k0_chk126 v56 v215), ∀ a x, ((![v56, v215] : Fin 2 → IVec S16 32) a x).toNat < S32x1024.size a := fun v56 v215 k0_hw126 => k0_hw126

def k0_chk127 (v56 : IVec S16 32) (v226 : IVec S16 32) : Prop :=
  (∀ a x, ((![v56, v226] : Fin 2 → IVec S16 32) a x).toNat < S32x1024.size a)
theorem k0_idx127_inb : ∀ (v56 : IVec S16 32) (v226 : IVec S16 32) (k0_hw127 : k0_chk127 v56 v226), ∀ a x, ((![v56, v226] : Fin 2 → IVec S16 32) a x).toNat < S32x1024.size a := fun v56 v226 k0_hw127 => k0_hw127

def k0_chk128 (v56 : IVec S16 32) (v237 : IVec S16 32) : Prop :=
  (∀ a x, ((![v56, v237] : Fin 2 → IVec S16 32) a x).toNat < S32x1024.size a)
theorem k0_idx128_inb : ∀ (v56 : IVec S16 32) (v237 : IVec S16 32) (k0_hw128 : k0_chk128 v56 v237), ∀ a x, ((![v56, v237] : Fin 2 → IVec S16 32) a x).toNat < S32x1024.size a := fun v56 v237 k0_hw128 => k0_hw128
def k0_off9 (k0_t15 : Fin k0_t15_loop.trips) : Fin 1 → Nat :=
  let c224_i32_79 : BitVec 32 := 224#32
  let c0_i32_69 : BitVec 32 := 0#32
  let c1_i32_71 : BitVec 32 := 1#32
  let arg9 : BitVec 32 := Scf.iv c0_i32_69 c1_i32_71 k0_t15
  let c16_i32_78 : BitVec 32 := 16#32
  let v62 : BitVec 32 := Scalar.muli arg9 c16_i32_78
  let v63 : BitVec 32 := Scalar.addi c224_i32_79 v62
  let v64 : Index := Scalar.indexCast v63
  ![v64.toNat]
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x1024 : Shape := ⟨3, ![8, 1024, 1024]⟩
abbrev S512x512 : Shape := ⟨2, ![512, 512]⟩
abbrev S_ : Shape := ⟨0, ![]⟩
abbrev S8x1024 : Shape := ⟨2, ![8, 1024]⟩
abbrev S8x1024x1 : Shape := ⟨3, ![8, 1024, 1]⟩
abbrev S1 : Shape := ⟨1, ![1]⟩
abbrev S1x1x1 : Shape := ⟨3, ![1, 1, 1]⟩
abbrev S8x1024x512 : Shape := ⟨3, ![8, 1024, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x1024x1024, .i32⟩
  | .hbm, ⟨1, _⟩ => ⟨S512x512, .f32⟩
  | .hbm, ⟨2, _⟩ => ⟨S8x1024x1024, .i32⟩
  | .hbm, ⟨3, _⟩ => ⟨S_, .i32⟩
  | .hbm, ⟨4, _⟩ => ⟨S8x1024x1024, .i32⟩
  | .hbm, ⟨5, _⟩ => ⟨S8x1024x1024, .i1⟩
  | .hbm, ⟨6, _⟩ => ⟨S8x1024x1024, .f32⟩
  | .hbm, ⟨7, _⟩ => ⟨S_, .f32⟩
  | .hbm, ⟨8, _⟩ => ⟨S8x1024, .f32⟩
  | .hbm, ⟨9, _⟩ => ⟨S8x1024, .i32⟩
  | .hbm, ⟨10, _⟩ => ⟨S_, .i32⟩
  | .hbm, ⟨11, _⟩ => ⟨S8x1024, .i32⟩
  | .hbm, ⟨12, _⟩ => ⟨S8x1024, .i1⟩
  | .hbm, ⟨13, _⟩ => ⟨S_, .i32⟩
  | .hbm, ⟨14, _⟩ => ⟨S8x1024, .i32⟩
  | .hbm, ⟨15, _⟩ => ⟨S8x1024, .i32⟩
  | .hbm, ⟨16, _⟩ => ⟨S8x1024, .i32⟩
  | .hbm, ⟨17, _⟩ => ⟨S8x1024x1, .i32⟩
  | .hbm, ⟨18, _⟩ => ⟨S1, .i32⟩
  | .hbm, ⟨19, _⟩ => ⟨S_, .i32⟩
  | .hbm, ⟨20, _⟩ => ⟨S8x1024x1, .i32⟩
  | .hbm, ⟨21, _⟩ => ⟨S8x1024x1, .i1⟩
  | .hbm, ⟨22, _⟩ => ⟨S1x1x1, .i32⟩
  | .hbm, ⟨23, _⟩ => ⟨S8x1024x1, .i32⟩
  | .hbm, ⟨24, _⟩ => ⟨S8x1024x1, .i1⟩
  | .hbm, ⟨25, _⟩ => ⟨S8x1024x1, .i1⟩
  | .hbm, ⟨26, _⟩ => ⟨S_, .i1⟩
  | .hbm, ⟨27, _⟩ => ⟨S8x1024, .i1⟩
  | .hbm, ⟨28, _⟩ => ⟨S8x1024x512, .f32⟩
  | .hbm, ⟨29, _⟩ => ⟨S8x1024x512, .i1⟩
  | .hbm, ⟨30, _⟩ => ⟨S_, .f32⟩
  | .hbm, ⟨31, _⟩ => ⟨S8x1024x512, .f32⟩
  | .hbm, ⟨32, _⟩ => ⟨S8x1024x512, .f32⟩
  | _, _ => ⟨S8x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Shape.lean ====
/-
  The SparseCore kernel's body as a short program. The printed text writes the same straight-line code out once per
  diagonal (sixteen of them), per block (eight) and per staging buffer (two). Here each of those is one definition with
  its number and its buffers as parameters, and the printed text is shown to be their composition.
-/
module

public import proofs.«01_k».proof.Defs
public import proofs.«01_k».proof.Proof.Gen.KernelIdeal

@[expose] public section

noncomputable section

namespace Cert.Proof.Shape

open Cert.KernelIdeal Cert.KernelIdeal.Gen
open Idealize.ShloMosaic Idealize.SL.Sem

variable {F : FTy → Type} [FloatOps F]

/-- The lane numbers `0, …, 15`. -/
abbrev lanes : IVec S16 32 := iota .scVector S16 32 [0] iota_S16_d0_w32_scVector

/-- The columns that diagonal `k` reads in the sixteen columns from `base`: lane `l` reads column `base + (l + k) mod 16`. -/
abbrev cols (base k : BitVec 32) : IVec S16 32 :=
  addi (broadcast S16 base) (andi (addi lanes (broadcast S16 k)) (broadcast S16 15#32))

/-- One more for each lane whose word is `1`. -/
abbrev tally (acc w : IVec S16 32) : IVec S16 32 :=
  addi acc (extui 32 (cmpi .eq w (broadcast S16 1#32)) natLt_1_32)

/-- A tile's programs. -/
abbrev TileProg (F : FTy → Type) [FloatOps F] (i : grid0.Coords) : Type → Type _ :=
  Prog (TpuEff nD τ sig (Elt F) Λ₀ (.scVector ((i 0).castLE hcore0) ((i 1).castLE hsub0)))

/-- One diagonal: check that the lanes' columns are inside the block, gather, tally. -/
def diag (i : grid0.Coords) (mem : Memref sig .scVector .vmem S32x1024 .i32) (rows : IVec S16 32) (base k : BitVec 32)
    (acc : IVec S16 32) : TileProg F i (IVec S16 32) := do
  have hw := (← Prog.lift (TpuEff.assume (k0_chk1 rows (cols base k)) (k0_chk1.dec rows (cols base k)))).down
  let w : Vec F S16 .i32 ← SparseCore.vectorLoadIdx mem ![rows, cols base k] (k0_idx1_inb rows (cols base k) hw) (View.loads_vmem h_S32x1024)
  pure (tally acc w)

/-- The diagonals of a list, one after the other. -/
def diags (i : grid0.Coords) (mem : Memref sig .scVector .vmem S32x1024 .i32) (rows : IVec S16 32) (base : BitVec 32) :
    List (BitVec 32) → IVec S16 32 → TileProg F i (IVec S16 32)
  | [], acc => pure acc
  | k :: ks, acc => diag i mem rows base k acc >>= diags i mem rows base ks

/-- A list's first diagonal, then the others. -/
theorem diags_cons (i : grid0.Coords) (mem : Memref sig .scVector .vmem S32x1024 .i32) (rows : IVec S16 32) (base k : BitVec 32)
    (ks : List (BitVec 32)) (acc : IVec S16 32) :
    diags (F := F) i mem rows base (k :: ks) acc
      = .op (TpuEff.assume (k0_chk1 rows (cols base k)) (k0_chk1.dec rows (cols base k))) fun hw =>
          SparseCore.vectorLoadIdx mem ![rows, cols base k] (k0_idx1_inb rows (cols base k) hw.down) (View.loads_vmem h_S32x1024) >>= fun w =>
            diags i mem rows base ks (tally acc w) := rfl

/-- The sixteen diagonals. -/
abbrev sixteen : List (BitVec 32) := [0#32, 1#32, 2#32, 3#32, 4#32, 5#32, 6#32, 7#32, 8#32, 9#32, 10#32, 11#32, 12#32, 13#32, 14#32, 15#32]

/-- The tally of sixteen rows: sixty-four times the sixteen diagonals. -/
def rowTally (i : grid0.Coords) (mem : Memref sig .scVector .vmem S32x1024 .i32) (rows : IVec S16 32) : TileProg F i (IVec S16 32) :=
  Scf.Loop.for k0_t2_loop k0_t2_ok (broadcast S16 0#32) fun t acc =>
    diags i mem rows (Scalar.muli (Scf.iv 0#32 1#32 t) 16#32) sixteen acc

/-- The rows group `q` of a block reads: lane `l` row `16 q + l`. -/
abbrev rowsOf (q : Fin k0_t1_loop.trips) : IVec S16 32 :=
  addi (broadcast S16 (Scalar.muli (Scf.iv 0#32 1#32 q) 16#32)) lanes

/-- One block of 32 rows: for each of its two groups of sixteen, the tally, held at `511` and stored at `off`. -/
def block (i : grid0.Coords) (mem : Memref sig .scVector .vmem S32x1024 .i32) (out : Memref sig .scVector .vmem S256 .i32)
    (off : Fin k0_t1_loop.trips → Fin 1 → ℕ) (hoff : ∀ q a, off q a + S16.size a ≤ S256.size a) : TileProg F i PUnit :=
  Scf.Loop.for k0_t1_loop k0_t1_ok ⟨⟩ fun q _ => do
    let n : IVec S16 32 ← rowTally i mem (rowsOf q)
    let _ : Vec F S16 .i32 ← Prog.lift (.load out (Rect.unit (s := S256) (off q) S16.size (hoff q)).toLoadRect (View.loadsAt_vmem h_S16))
    Prog.lift (.store out (Rect.unit (s := S256) (off q) S16.size (hoff q)) (minsi n (broadcast S16 511#32)) Finset.univ (View.stores_vmem_bits_univ h_S16 rfl) (.inl rfl))
    pure ⟨⟩

/-! ## The printed text -/

/-- The printed body of the column loop on the first staging buffer, in its four parts: the sixteen diagonals. -/
theorem parts_eq (i : grid0.Coords) (arg2 : Memref sig .scVector .hbm S8192x1024 .i32) (harg2 : arg2.IsWhole) (arg3 : Memref sig .scVector .hbm S8192 .i32) (harg3 : arg3.IsWhole) (arg4 : Memref sig .scVector .vmem S32x1024 .i32) (harg4 : arg4.IsWhole) (arg5 : Memref sig .scVector .vmem S32x1024 .i32) (harg5 : arg5.IsWhole) (arg6 : Memref sig .scVector .vmem S256 .i32) (harg6 : arg6.IsWhole) (arg7 : DmaSems sig S_) (arg8 : DmaSems sig S_) (v54_r0 : DmaSems sig S_)
    (v56 : IVec S16 32) (t : Fin k0_t2_loop.trips) (acc : IVec S16 32) :
    ((do
      let ⟨v66, v99, v106, v107⟩ : Σ' (v66 : BitVec 32) (v99 : IVec S16 32) (v106 : Vec F S16 .i32), IVec S16 32 ← k0_part1 i arg2 harg2 arg3 harg3 arg4 harg4 arg5 harg5 arg6 harg6 arg7 arg8 v54_r0 lanes v56 0#32 1#32 t acc
      let ⟨v143, v150, v151⟩ : Σ' (v143 : IVec S16 32) (v150 : Vec F S16 .i32), IVec S16 32 ← k0_part2 i arg2 harg2 arg3 harg3 arg4 harg4 arg5 harg5 arg6 harg6 arg7 arg8 v54_r0 lanes v56 v66 v99 v106 v107
      let ⟨v187, v194, v195⟩ : Σ' (v187 : IVec S16 32) (v194 : Vec F S16 .i32), IVec S16 32 ← k0_part3 i arg2 harg2 arg3 harg3 arg4 harg4 arg5 harg5 arg6 harg6 arg7 arg8 v54_r0 lanes v56 v66 v143 v150 v151
      let ⟨v231, v238, v239⟩ : Σ' (v231 : IVec S16 32) (v238 : Vec F S16 .i32), IVec S16 32 ← k0_part4 i arg2 harg2 arg3 harg3 arg4 harg4 arg5 harg5 arg6 harg6 arg7 arg8 v54_r0 lanes v56 v66 v187 v194 v195
      pure (addi v231 (extui 32 (cmpi .eq v238 v239) natLt_1_32)) : TileProg F i (IVec S16 32)))
    = diags i arg4 v56 (Scalar.muli (Scf.iv 0#32 1#32 t) 16#32) sixteen acc := rfl

/-- One row block of `v0`, as the tile's copies read it. -/
abbrev src (i : grid0.Coords) (arg2 : Memref sig .scVector .hbm S8192x1024 .i32) (g : Fin 8) : Memref sig .scVector .hbm S32x1024 .i32 :=
  arg2.slice (Rect.unit (s := S8192x1024) (k0_off1 i (BitVec.ofNat 32 (32 * g.val))) S32x1024.size (k0_off1_inb i g)) (fun _ => rfl)

def fetch (i : grid0.Coords) (arg2 : Memref sig .scVector .hbm S8192x1024 .i32) (g : Fin 8) (mem : Memref sig .scVector .vmem S32x1024 .i32)
    (hmem : mem.IsWhole) (sem : DmaSems sig S_) : TileProg F i PUnit :=
  Prog.lift (.enqueueDma (src i arg2 g) (.here mem) (.dma sem.sem) (View.wordExact_bits rfl) hmem.wordExact ⟨Or.inl rfl, trivial⟩)

def await (i : grid0.Coords) (arg2 : Memref sig .scVector .hbm S8192x1024 .i32) (g : Fin 8) (mem : Memref sig .scVector .vmem S32x1024 .i32)
    (hmem : mem.IsWhole) (sem : DmaSems sig S_) : TileProg F i PUnit :=
  Prog.lift (.waitDma2 sem.sem (src i arg2 g) mem (View.wordExact_bits rfl) hmem.wordExact)

/-- The result's copy out. -/
abbrev dst (i : grid0.Coords) (arg3 : Memref sig .scVector .hbm S8192 .i32) : Memref sig .scVector .hbm S256 .i32 :=
  arg3.slice (Rect.unit (s := S8192) (k0_off10 i) S256.size (k0_off10_inb i)) (fun _ => rfl)

/-- The whole body: eight blocks through two staging buffers, block `g + 2` fetched while block `g + 1` is counted. -/
def degree (i : grid0.Coords) (arg2 : Memref sig .scVector .hbm S8192x1024 .i32) (arg3 : Memref sig .scVector .hbm S8192 .i32)
    (arg4 : Memref sig .scVector .vmem S32x1024 .i32) (harg4 : arg4.IsWhole) (arg5 : Memref sig .scVector .vmem S32x1024 .i32) (harg5 : arg5.IsWhole)
    (arg6 : Memref sig .scVector .vmem S256 .i32) (harg6 : arg6.IsWhole) (arg7 : DmaSems sig S_) (arg8 : DmaSems sig S_) (v54_r0 : DmaSems sig S_) :
    TileProg F i PUnit := do
  fetch i arg2 0 arg4 harg4 arg7
  fetch i arg2 1 arg5 harg5 arg8
  await i arg2 0 arg4 harg4 arg7
  block i arg4 arg6 k0_off2 k0_off2_inb
  fetch i arg2 2 arg4 harg4 arg7
  await i arg2 1 arg5 harg5 arg8
  block i arg5 arg6 k0_off3 k0_off3_inb
  fetch i arg2 3 arg5 harg5 arg8
  await i arg2 2 arg4 harg4 arg7
  block i arg4 arg6 k0_off4 k0_off4_inb
  fetch i arg2 4 arg4 harg4 arg7
  await i arg2 3 arg5 harg5 arg8
  block i arg5 arg6 k0_off5 k0_off5_inb
  fetch i arg2 5 arg5 harg5 arg8
  await i arg2 4 arg4 harg4 arg7
  block i arg4 arg6 k0_off6 k0_off6_inb
  fetch i arg2 6 arg4 harg4 arg7
  await i arg2 5 arg5 harg5 arg8
  block i arg5 arg6 k0_off7 k0_off7_inb
  fetch i arg2 7 arg5 harg5 arg8
  await i arg2 6 arg4 harg4 arg7
  block i arg4 arg6 k0_off8 k0_off8_inb
  await i arg2 7 arg5 harg5 arg8
  block i arg5 arg6 k0_off9 k0_off9_inb
  Prog.lift (.enqueueDma arg6 (.here (dst i arg3)) (.dma v54_r0.sem) harg6.wordExact (View.wordExact_bits rfl) ⟨Or.inl rfl, trivial⟩)
  Prog.lift (.waitDma2 v54_r0.sem arg6 (dst i arg3) harg6.wordExact (View.wordExact_bits rfl))
  pure ⟨⟩

theorem degree_eq (i : grid0.Coords) (arg2 : Memref sig .scVector .hbm S8192x1024 .i32) (harg2 : arg2.IsWhole) (arg3 : Memref sig .scVector .hbm S8192 .i32) (harg3 : arg3.IsWhole) (arg4 : Memref sig .scVector .vmem S32x1024 .i32) (harg4 : arg4.IsWhole) (arg5 : Memref sig .scVector .vmem S32x1024 .i32) (harg5 : arg5.IsWhole) (arg6 : Memref sig .scVector .vmem S256 .i32) (harg6 : arg6.IsWhole) (arg7 : DmaSems sig S_) (arg8 : DmaSems sig S_) (v54_r0 : DmaSems sig S_) :
    cc0_degree (F := F) i arg2 harg2 arg3 harg3 arg4 harg4 arg5 harg5 arg6 harg6 arg7 arg8 v54_r0 = degree i arg2 arg3 arg4 harg4 arg5 harg5 arg6 harg6 arg7 arg8 v54_r0 := by
  unfold cc0_degree k0_part33 k0_part34 degree
  simp only [Prog.bind_assoc, bind_assoc, pure_bind]
  rfl

end Cert.Proof.Shape
-- ==== Proof.Base.lean ====
/-
  What the launch theorem is told of the program: the SparseCore call and the TensorCore call inside it, and the ghost
  state — the handshakes' rounds, the rounds of the TensorCore call's staging cells, and the counters of the tiles' copies.
-/
module

public import proofs.«01_k».proof.Proof.Shape
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.Tactic

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the first component. -/
abbrev EH : Emb UH (MT nD τ sig (HIx 1) (Elt F) ℕ UU ℕ) := embL
/-- The staging cells' rounds: the second. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- The launch's element: the handshakes' and the staging cells', the counters at their unit. -/
theorem ownU_split (a : UH) (b : UP) : (ownU ((a, (b, 1)) : UU) : sProp 𝕄) ⊢ iprop(BI.own (EH a) ∗ BI.own (EP b)) := ownU_pair a (b, 1)

/-! ## The buffers -/

abbrev cV (L : grid0.Coords) : Fin τ.nSC := (L 0).castLE hcore0
abbrev jV (L : grid0.Coords) : Fin τ.nSub := (L 1).castLE hsub0

end Cert.Proof.Base
-- ==== Proof.Tally.lean ====
/-
  What the counting loops compute, as arithmetic. A lane's tally over the sixteen diagonals of sixteen columns is the
  number of ones its row holds there: in diagonal `k` lane `l` reads column `(l + k) mod 16`, and as `k` runs over
  `0, …, 15` so does `(l + k) mod 16`. Over the sixty-four groups of sixteen columns it is the row's number of ones.
-/
module

public import proofs.«01_k».proof.Proof.Shape

@[expose] public section

noncomputable section

namespace Cert.Proof.Tally

open Cert.KernelIdeal Cert.KernelIdeal.Gen Cert.Proof.Shape
open Idealize.ShloMosaic

/-! ## The count -/

/-- `1` where the row holds a one at column `c`, else `0`. -/
def hit (row : Fin 1024 → BitVec 32) (c : ℕ) : ℕ := if h : c < 1024 then (if row ⟨c, h⟩ = 1#32 then 1 else 0) else 0

/-- The number of ones among the first `n` columns of a row. -/
def ones (row : Fin 1024 → BitVec 32) (n : ℕ) : ℕ := ∑ c ∈ Finset.range n, hit row c

theorem hit_le (row : Fin 1024 → BitVec 32) (c : ℕ) : hit row c ≤ 1 := by
  unfold hit; split_ifs <;> omega

theorem ones_le (row : Fin 1024 → BitVec 32) (n : ℕ) : ones row n ≤ n :=
  (Finset.sum_le_card_nsmul _ _ 1 fun c _ => hit_le row c).trans (by simp)

theorem ones_add (row : Fin 1024 → BitVec 32) (n k : ℕ) : ones row (n + k) = ones row n + ∑ j ∈ Finset.range k, hit row (n + j) :=
  Finset.sum_range_add _ _ _

/-- The count as the sum over the columns. -/
theorem ones_eq (row : Fin 1024 → BitVec 32) : ones row 1024 = ∑ c : Fin 1024, if row c = 1#32 then 1 else 0 := by
  unfold ones
  rw [Finset.sum_range]
  refine Finset.sum_congr rfl fun c _ => ?_
  unfold hit
  rw [dif_pos c.isLt]

/-- A row's entry of the result: its number of ones, held at `511`. -/
def entry (row : Fin 1024 → BitVec 32) : BitVec 32 := BitVec.ofNat 32 (min (ones row 1024) 511)

/-- The kernel's minimum of words is the minimum of the numbers. -/
theorem minsi_ones (row : Fin 1024 → BitVec 32) : IntOp.minsi (BitVec.ofNat 32 (ones row 1024)) 511#32 = entry row := by
  have h := ones_le row 1024
  unfold entry IntOp.minsi
  generalize ones row 1024 = n at h
  have hn : (BitVec.ofNat 32 n).toInt = n := by
    rw [BitVec.toInt_eq_toNat_of_lt] <;> simp only [BitVec.toNat_ofNat] <;> omega
  have h5 : (511#32).toInt = 511 := by decide
  rcases Nat.lt_or_ge n 511 with hlt | hge
  · rw [if_pos (BitVec.slt_iff_toInt_lt.mpr (by rw [hn, h5]; omega)), Nat.min_eq_left (by omega)]
  · rw [if_neg fun h' => by have := BitVec.slt_iff_toInt_lt.mp h'; rw [hn, h5] at this; omega, Nat.min_eq_right hge]

/-! ## The columns of a diagonal -/

theorem lanes_apply (x : S16.Idx) : lanes x = BitVec.ofNat 32 (x 0).val := by
  show BitVec.ofNat 32 (0 * 16 + (x 0).val) = _
  rw [Nat.zero_mul, Nat.zero_add]

theorem cols_apply (b k : ℕ) (hb : b ≤ 1008) (hk : k < 16) (x : S16.Idx) :
    (cols (BitVec.ofNat 32 b) (BitVec.ofNat 32 k) x).toNat = b + ((x 0).val + k) % 16 := by
  show (BitVec.ofNat 32 b + ((lanes x + BitVec.ofNat 32 k) &&& 15#32)).toNat = _
  have hx : (x 0).val < 16 := (x 0).isLt
  rw [lanes_apply, BitVec.toNat_add, BitVec.toNat_and, BitVec.toNat_add]
  simp only [BitVec.toNat_ofNat]
  rw [show 15 % 2 ^ 32 = 2 ^ 4 - 1 from rfl, Nat.and_two_pow_sub_one_eq_mod]
  omega

/-- The sum over the sixteen diagonals is the sum over the sixteen columns. -/
theorem sum_diagonals (h : ℕ → ℕ) (l : ℕ) (hl : l < 16) :
    ((List.range 16).map fun k => h ((l + k) % 16)).sum = ∑ j ∈ Finset.range 16, h j := by
  simp only [List.range_succ, List.range_zero, List.nil_append, List.map_append, List.map_cons, List.map_nil, List.sum_append,
    List.sum_cons, List.sum_nil, Finset.sum_range_succ, Finset.sum_range_zero]
  interval_cases l <;> simp only [Nat.reduceAdd, Nat.reduceMod] <;> omega

/-! ## One diagonal's tally -/

/-- The index `(r, c)` of a block. -/
def at2 (r : Fin 32) (c : Fin 1024) : S32x1024.Idx := fun a => match a with | 0 => r | 1 => c

/-- Row `r` of a block. -/
def rowOf (blk : IVec S32x1024 32) (r : Fin 32) : Fin 1024 → BitVec 32 := fun c => blk (at2 r c)

theorem tally_apply (n : ℕ) (acc w : IVec S16 32) (x : S16.Idx) (h : acc x = BitVec.ofNat 32 n) :
    tally acc w x = BitVec.ofNat 32 (n + if w x = 1#32 then 1 else 0) := by
  show acc x + (BitVec.ofBool (w x == 1#32)).setWidth 32 = _
  rw [h, BitVec.ofNat_add]
  by_cases e : w x = 1#32
  · rw [if_pos e, e]; rfl
  · rw [if_neg e, beq_eq_false_iff_ne.mpr e]; rfl

/-- A row number and a diagonal's columns are inside the block, -/
theorem chk_cols (rows : IVec S16 32) (row : S16.Idx → Fin 32) (hrows : ∀ x, (rows x).toNat = (row x).val) (b k : ℕ) (hb : b ≤ 1008) (hk : k < 16) :
    k0_chk1 rows (cols (BitVec.ofNat 32 b) (BitVec.ofNat 32 k)) := by
  intro a x
  match a with
  | 0 => show (rows x).toNat < 32; rw [hrows]; exact (row x).isLt
  | 1 => show (cols (BitVec.ofNat 32 b) (BitVec.ofNat 32 k) x).toNat < 1024; rw [cols_apply b k hb hk]; omega

/-- and what a lane gathers there adds one exactly where its row holds a one. -/
theorem tally_gather (blk : IVec S32x1024 32) (rows : IVec S16 32) (row : S16.Idx → Fin 32) (hrows : ∀ x, (rows x).toNat = (row x).val)
    (b k : ℕ) (hb : b ≤ 1008) (hk : k < 16) (h) (acc : IVec S16 32) (n : S16.Idx → ℕ) (hn : ∀ x, acc x = BitVec.ofNat 32 (n x)) (x : S16.Idx) :
    tally acc (loadIdx (F := Ideal) (e := .i32) blk ![rows, cols (BitVec.ofNat 32 b) (BitVec.ofNat 32 k)] h) x
      = BitVec.ofNat 32 (n x + hit (rowOf blk (row x)) (b + ((x 0).val + k) % 16)) := by
  have hc : b + ((x 0).val + k) % 16 < 1024 := by omega
  rw [tally_apply (n x) acc _ x (hn x)]
  unfold hit
  rw [dif_pos hc]
  have e : idxAt ![rows, cols (BitVec.ofNat 32 b) (BitVec.ofNat 32 k)] h x = at2 (row x) ⟨b + ((x 0).val + k) % 16, hc⟩ := by
    funext a
    refine Fin.ext ?_
    match a with
    | 0 => exact hrows x
    | 1 => exact cols_apply b k hb hk x
  show BitVec.ofNat 32 (n x + if blk (idxAt ![rows, cols (BitVec.ofNat 32 b) (BitVec.ofNat 32 k)] h x) = 1#32 then 1 else 0) = _
  rw [e]; rfl

/-! ## The loops' counters -/

theorem trips_two : k0_t1_loop.trips = 2 := by decide
theorem trips_sixtyfour : k0_t2_loop.trips = 64 := by decide

/-- The first column of a group of sixteen. -/
theorem base_eq (t : Fin k0_t2_loop.trips) : Scalar.muli (Scf.iv 0#32 1#32 t) 16#32 = BitVec.ofNat 32 (16 * t.val) := by
  show (0#32 + BitVec.ofNat 32 t.val * 1#32) * 16#32 = _
  rw [BitVec.zero_add, BitVec.mul_one, Nat.mul_comm, BitVec.ofNat_mul]

/-- The rows of a group of sixteen. -/
theorem rowsOf_apply (q : Fin k0_t1_loop.trips) (x : S16.Idx) : (rowsOf q x).toNat = 16 * q.val + (x 0).val := by
  have hq : q.val < 2 := trips_two ▸ q.isLt
  have hx : (x 0).val < 16 := (x 0).isLt
  show ((0#32 + BitVec.ofNat 32 q.val * 1#32) * 16#32 + lanes x).toNat = _
  rw [lanes_apply, BitVec.zero_add, BitVec.mul_one, BitVec.toNat_add, BitVec.toNat_mul]
  simp only [BitVec.toNat_ofNat]
  omega

/-- The row lane `x` of group `q` counts. -/
def rowAt (q : Fin k0_t1_loop.trips) (x : S16.Idx) : Fin 32 :=
  ⟨16 * q.val + (x 0).val, by have hq : q.val < 2 := trips_two ▸ q.isLt; have hx : (x 0).val < 16 := (x 0).isLt; omega⟩

end Cert.Proof.Tally
-- ==== Proof.Block.lean ====
/-
  One block of 32 rows counted: what each of the 32 entries of the count buffer holds afterwards. The gathers check that
  their columns are inside the block; the columns are, at every diagonal, whatever the block holds.
-/
module

public import proofs.«01_k».proof.Proof.Base
public import proofs.«01_k».proof.Proof.Tally

@[expose] public section

noncomputable section

namespace Cert.Proof.Block

open Cert.KernelIdeal Cert.KernelIdeal.Gen Cert.Proof.Shape Cert.Proof.Base Cert.Proof.Tally
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The tile's thread. -/
abbrev tile : Thread nD τ := V d (cV L) (jV L)

/-! ## The gathers of sixteen columns -/

section Rows

variable (mem : Memref sig .scVector .vmem S32x1024 .i32) (rows : IVec S16 32) (row : S16.Idx → Fin 32) (hrows : ∀ x, (rows x).toNat = (row x).val)

/-- A staging buffer's view, whole. -/
abbrev all : View sig .scVector .vmem S32x1024 .i32 := mem.access (.whole S32x1024)

variable (f : Buf (Elt F) ((all mem).loc (tile d L)))

/-- The staging buffer's elements, at `f`. -/
abbrev memPts : sProp 𝕄 := ((all mem).loc (tile d L) ↦[(all mem).set]{fullShare} f)

include hrows in
/-- The diagonals of a list, each lane's tally from `n`: it grows by the ones its row holds at the columns they read. -/
theorem wp_diags (b : ℕ) (hb : b ≤ 1008) (ks : List ℕ) (hks : ∀ k ∈ ks, k < 16) :
    ∀ (n : S16.Idx → ℕ) (acc : IVec S16 32) (_ : ∀ x, acc x = BitVec.ofNat 32 (n x)),
      memPts d L mem f
        ⊢ wp frame (wpE (defs₀ (F := F)) 𝒱₀ (tile d L) none) Set.univ (diags L mem rows (BitVec.ofNat 32 b) (ks.map (BitVec.ofNat 32)) acc)
            fun acc' => iprop(⌜∀ x, acc' x = BitVec.ofNat 32
              (n x + (ks.map fun k => hit (rowOf ((all mem).read (Elt F) f) (row x)) (b + ((x 0).val + k) % 16)).sum)⌝ ∗ memPts d L mem f) := by
  induction ks with
  | nil =>
    intro n acc hn
    show _ ⊢ wp _ _ _ (.ret acc) _
    rw [wp_ret]
    iintro H
    imodintro
    isplitr
    · ipureintro; intro x; rw [List.map_nil, List.sum_nil, Nat.add_zero]; exact hn x
    · iexact H
  | cons k ks ih =>
    intro n acc hn
    have hk := hks k List.mem_cons_self
    rw [List.map_cons, diags_cons, wp_assume_of _ _ _ _ (chk_cols rows row hrows b k hb hk)]
    iintro H
    iapply (SparseCore.wp_vectorLoadIdx 𝒱₀ (tile d L) none Set.univ (base := mem) (S := (all mem).set) (f := f) subset_rfl) $$ H
    iintro H
    iapply (wp_mono frame _ _ (fun acc' => ?_)) $$ [H]
    rotate_left
    · iapply (ih (fun k' hk' => hks k' (List.mem_cons_of_mem _ hk')) (fun x => n x + hit (rowOf ((all mem).read (Elt F) f) (row x)) (b + ((x 0).val + k) % 16)) _
        (fun x => tally_gather _ rows row hrows b k hb hk _ acc n hn x)); iexact H
    · refine sep_mono_left (Laws.pure_mono fun h x => ?_)
      rw [h x, List.map_cons, List.sum_cons, Nat.add_assoc]

include hrows in
/-- The tally of sixteen rows: each lane's row's number of ones. -/
theorem wp_rowTally :
    memPts d L mem f
      ⊢ wp frame (wpE (defs₀ (F := F)) 𝒱₀ (tile d L) none) Set.univ (rowTally L mem rows)
          fun acc => iprop(⌜∀ x, acc x = BitVec.ofNat 32 (ones (rowOf ((all mem).read (Elt F) f) (row x)) 1024)⌝ ∗ memPts d L mem f) := by
  unfold rowTally
  iintro H
  iapply (Scf.wp_for frame (wpE (defs₀ (F := F)) 𝒱₀ (tile d L) none) Set.univ _ _ _ k0_t2_ok _ _
    (fun t acc => iprop(⌜∀ x, acc x = BitVec.ofNat 32 (ones (rowOf ((all mem).read (Elt F) f) (row x)) (16 * t))⌝ ∗ memPts d L mem f)) ?_)
  · intro t acc
    have ht : t.val < 64 := trips_sixtyfour ▸ t.isLt
    iintro ⟨%hacc, H⟩
    rw [base_eq]
    iapply (wp_mono frame _ _ (fun acc' => ?_)) $$ [H]
    rotate_left
    · iapply (wp_diags d L mem rows row hrows f (16 * t.val) (by omega) (List.range 16) (fun k hk => List.mem_range.mp hk) _ acc hacc); iexact H
    · refine sep_mono_left (Laws.pure_mono fun h x => ?_)
      rw [h x, sum_diagonals (fun j => hit (rowOf ((all mem).read (Elt F) f) (row x)) (16 * t.val + j)) _ (x 0).isLt, Nat.mul_succ, ones_add]
  · isplitl [H]
    · isplitr
      · ipureintro; intro x; rfl
      · iexact H
    · iintro %acc ⟨%h, H⟩
      isplitr
      · ipureintro; intro x; rw [h x, show Scf.trips k0_t2_loop.lb k0_t2_loop.ub k0_t2_loop.st = 64 from trips_sixtyfour]
      · iexact H

end Rows

/-! ## The block -/

/-- The count buffer, and its contents. -/
abbrev cnt : Memref sig .scVector .vmem S256 .i32 := Memref.whole cc0_scratch2
abbrev Cnt (F : FTy → Type) : Type := Buf (Elt F) ((tile d L).loc cc0_scratch2)

/-- The index `n` of the count buffer. -/
def at1 (n : Fin 256) : S256.Idx := fun a => match a with | 0 => n

/-- Lane `l`. -/
def lane (l : Fin 16) : S16.Idx := fun a => match a with | 0 => l

/-- Sixteen words stored at an offset: entry `offset + l` is word `l`, -/
theorem store_in (g : Cnt d L F) (off : Fin 1 → ℕ) (hoff : ∀ a, off a + S16.size a ≤ S256.size a) (w : IVec S16 32) (n : Fin 256) (l : Fin 16)
    (h : off 0 + l.val = n.val) :
    (cnt.access (Rect.unit (s := S256) off S16.size hoff)).write (Elt F) g w Finset.univ (at1 n) = w (lane l) := by
  have e : (cnt.access (Rect.unit (s := S256) off S16.size hoff)).emb (lane l) = at1 n := by
    funext a
    refine Fin.ext ?_
    match a with
    | 0 => exact (ValueKit.view_emb_slice_whole_unit_val cc0_scratch2 off S16.size hoff _ 0).trans h
  rw [← e, View.write_emb_of_mem _ _ (Finset.mem_univ _)]
  rfl

/-- and the others stay. -/
theorem store_out (g : Cnt d L F) (off : Fin 1 → ℕ) (hoff : ∀ a, off a + S16.size a ≤ S256.size a) (w : IVec S16 32) (n : Fin 256)
    (h : n.val < off 0 ∨ off 0 + 16 ≤ n.val) :
    (cnt.access (Rect.unit (s := S256) off S16.size hoff)).write (Elt F) g w Finset.univ (at1 n) = g (at1 n) := by
  refine View.write_of_not_mem _ _ _ fun hm => ?_
  obtain ⟨x, -, hx⟩ := Finset.mem_map.mp hm
  have hx0 : (x 0).val < 16 := (x 0).isLt
  have hv := (ValueKit.view_emb_slice_whole_unit_val cc0_scratch2 off S16.size hoff x 0).symm.trans (congrArg (fun y : S256.Idx => (y 0).val) hx)
  have hv' : off 0 + (x 0).val = n.val := hv
  omega

section Block

variable (mem : Memref sig .scVector .vmem S32x1024 .i32) (f : Buf (Elt F) ((all mem).loc (tile d L)))

/-- The count buffer after the first `q` groups of sixteen of the block at `o`: those groups' entries are their rows'. -/
def Counted (o q : ℕ) (g g' : Cnt d L F) : Prop :=
  (∀ (n : Fin 256) (r : Fin 32), n.val = o + r.val → r.val < 16 * q → g' (at1 n) = entry (rowOf ((all mem).read (Elt F) f) r))
    ∧ ∀ n : Fin 256, (n.val < o ∨ o + 16 * q ≤ n.val) → g' (at1 n) = g (at1 n)

/-- The block's two groups: the staging buffer stays, the block's 32 entries are its rows', the others stay. -/
theorem wp_block (off : Fin k0_t1_loop.trips → Fin 1 → ℕ) (hoff : ∀ q a, off q a + S16.size a ≤ S256.size a) (o : ℕ) (ho : o + 32 ≤ 256)
    (hval : ∀ q, off q 0 = o + 16 * q.val) (g : Cnt d L F) :
    iprop(memPts d L mem f ∗ ((tile d L).loc cc0_scratch2 ↦{fullShare} g))
      ⊢ wp frame (wpE (defs₀ (F := F)) 𝒱₀ (tile d L) none) Set.univ (block L mem cnt off hoff)
          fun _ => iprop(memPts d L mem f ∗ ∃ g', ⌜Counted d L mem f o 2 g g'⌝ ∗ ((tile d L).loc cc0_scratch2 ↦{fullShare} g')) := by
  unfold block
  iintro H
  iapply (Scf.wp_for frame (wpE (defs₀ (F := F)) 𝒱₀ (tile d L) none) Set.univ _ _ _ k0_t1_ok _ _
    (fun q _ => iprop(memPts d L mem f ∗ ∃ g', ⌜Counted d L mem f o q g g'⌝ ∗ ((tile d L).loc cc0_scratch2 ↦{fullShare} g'))) ?_)
  · intro q _
    have hq : q.val < 2 := trips_two ▸ q.isLt
    iintro ⟨H, %g', %hg, Hc⟩
    rw [wp_bind]
    ihave Hw := (wp_rowTally d L mem (rowsOf q) (rowAt q) (rowsOf_apply q) f) $$ H
    iapply (wp_wand_r frame _ _) $$ [Hw Hc]
    isplitl [Hw]
    · iexact Hw
    · iintro %acc ⟨%hacc, H⟩
      iapply (wp_load_rect 𝒱₀ (tile d L) none Set.univ (m := cnt) (r := Rect.unit (s := S256) (off q) S16.size (hoff q)) (S := Finset.univ) (f := g') (Finset.subset_univ _)) $$ Hc
      iintro Hc
      iapply (wp_store 𝒱₀ (tile d L) none Set.univ (m := cnt) (r := Rect.unit (s := S256) (off q) S16.size (hoff q)) (S := Finset.univ) (f := g') (Finset.subset_univ _)) $$ Hc
      iintro Hc
      simp only [Prog.bind, Prog.pure_eq_ret, wp_ret]
      imodintro
      isplitl [H]
      · iexact H
      iexists _
      isplitr [Hc]
      rotate_left
      · iexact Hc
      · ipureintro
        refine ⟨fun n r hn hr => ?_, fun n hn => ?_⟩
        · by_cases h : 16 * q.val ≤ r.val
          · rw [store_in d L g' (off q) (hoff q) _ n ⟨r.val - 16 * q.val, by omega⟩ (by rw [hval q]; show o + 16 * q.val + (r.val - 16 * q.val) = n.val; omega)]
            have hx := hacc (lane ⟨r.val - 16 * q.val, by omega⟩)
            rw [show rowAt q (lane ⟨r.val - 16 * q.val, by omega⟩) = r from Fin.ext (by
              show 16 * q.val + (r.val - 16 * q.val) = r.val; omega)] at hx
            show IntOp.minsi (acc _) 511#32 = _
            rw [hx, minsi_ones]
          · rw [store_out d L g' (off q) (hoff q) _ n (by rw [hval q]; omega)]
            exact hg.1 n r hn (by omega)
        · rw [store_out d L g' (off q) (hoff q) _ n (by rw [hval q]; omega)]
          exact hg.2 n (by omega)
  · icases H with ⟨H, Hc⟩
    isplitl [H Hc]
    · isplitl [H]
      · iexact H
      iexists g
      isplitr
      · ipureintro; exact ⟨fun n r _ hr => absurd hr (by omega), fun n _ => rfl⟩
      · iexact Hc
    · iintro %_ ⟨H, %g', %hg, Hc⟩
      isplitl [H]
      · iexact H
      iexists g'
      isplitr
      · ipureintro
        exact hg
      · iexact Hc

end Block

end Cert.Proof.Block
-- ==== Proof.Tile.lean ====
/-
  One tile's task, at a symbolic SparseCore and subcore: eight blocks of 32 rows of `v0` come in through two staging
  buffers, each is counted into its 32 entries of the count buffer, and the 256 counts go out to the tile's piece of `v1`.
-/
module

public import proofs.«01_k».proof.Proof.Block

@[expose] public section

noncomputable section

namespace Cert.Proof.Tile

open Cert.KernelIdeal Cert.KernelIdeal.Gen Cert.Proof.Shape Cert.Proof.Base Cert.Proof.Tally Cert.Proof.Block
open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the call computes -/

/-- The element of the distances' matrix in row `n`, column `c`. -/
def atX (n : Fin 8192) (c : Fin 1024) : S8192x1024.Idx := fun a => match a with | 0 => n | 1 => c

/-- Row `n` of the distances. -/
def rowX (X : IVec S8192x1024 32) (n : Fin 8192) : Fin 1024 → BitVec 32 := fun c => X (atX n c)

/-- The degrees: of each row how many of its words are one, at most 511. -/
def degrees (X : IVec S8192x1024 32) : IVec S8192 32 := fun n => entry (rowX X (n 0))

/-! ## The tile's pieces -/

variable (d : Dev nD) (L : grid0.Coords)

/-- The matrix and the result as the tiles address them. -/
abbrev inp : Memref sig .scVector .hbm S8192x1024 .i32 := Memref.whole main_v0_scv
abbrev out : Memref sig .scVector .hbm S8192 .i32 := Memref.whole main_v1_scv

/-- The tile's first row. -/
def first : ℕ := 512 * (L 1).val + 256 * (L 0).val

theorem first_le : first L + 256 ≤ 8192 := by
  have h0 : (L 0).val < 2 := (L 0).isLt
  have h1 : (L 1).val < 16 := (L 1).isLt
  unfold first; omega

/-- Row `k` of the tile's 256. -/
def rowAt (k : Fin 256) : Fin 8192 := ⟨first L + k.val, by have := first_le L; omega⟩

variable (X : IVec S8192x1024 32)

/-- Block `g` of the tile's rows, at `X`. -/
abbrev srcPts (g : Fin 8) : sProp 𝕄 := ((src L inp g).view.loc (tile d L) ↦[(src L inp g).view.set]{fullShare} X)

/-- The tile's piece of the result, at `Y`. -/
abbrev dstPts (Y : IVec S8192 32) : sProp 𝕄 := ((dst L out).view.loc (tile d L) ↦[(dst L out).view.set]{fullShare} Y)

/-- Row `r` of block `g` is row `32 * g + r` of the tile's. -/
theorem src_row (g : Fin 8) (r : Fin 32) (k : Fin 256) (hk : k.val = 32 * g.val + r.val) :
    rowOf ((src L inp g).view.read (Elt F) X) r = rowX X (rowAt L k) := by
  funext c
  show (src L inp g).view.read (Elt F) X (at2 r c) = X (atX (rowAt L k) c)
  refine ((View.read_apply _ _).trans (cast_eq _ _)).trans (congrArg X (funext fun a => Fin.ext ?_))
  refine (ValueKit.view_emb_slice_whole_unit_val _ _ _ _ _ _).trans ?_
  refine (congrArg (· + (at2 r c a).val) (congrFun (k0_off1_eq L g) a)).trans ?_
  match a with
  | 0 =>
    show 512 * (L 1).val + 256 * (L 0).val + 32 * g.val + r.val = first L + k.val
    unfold first; omega
  | 1 => exact Nat.zero_add _

/-! ## A block's copy in -/

section Stage

variable (mem : Memref sig .scVector .vmem S32x1024 .i32) (hmem : mem.IsWhole) (sem : DmaSems sig S_)

theorem all_set : (all mem).set = mem.view.set := by
  show (mem.view.slice _).set = _
  rw [View.set_slice, Rect.set_whole]; rfl

theorem all_read (f : Buf (Elt F) ((all mem).loc (tile d L))) : (all mem).read (Elt F) f = mem.view.read (Elt F) f := by
  funext x
  show mem.view.read (Elt F) f ((Rect.whole S32x1024).emb x) = _
  rw [Rect.emb_whole_apply]

/-- A staging buffer no copy is on, its semaphore at zero. -/
def Idle : sProp 𝕄 := iprop((∃ f, memPts d L mem f) ∗ semVal (tile d L, .dma sem.sem) 0)

/-- Block `g` on its way into the staging buffer. -/
def Coming (g : Fin 8) : sProp 𝕄 :=
  iprop(∃ f : Buf (Elt F) ((all mem).loc (tile d L)),
    Transfers.Flight countersEmb (tile d L) (.dma sem.sem) (default : HIx 1) (mem.view.amount (.dma sem.sem))
      iprop((mem.view.loc (tile d L) ↦[(all mem).set]{fullShare} mem.view.write (Elt F) f ((src L inp g).view.read (Elt F) X) Finset.univ)
        ∗ srcPts d L X g))

/-- The staging buffer holds block `g`. -/
def Holds (g : Fin 8) (f : Buf (Elt F) ((all mem).loc (tile d L))) : Prop :=
  (all mem).read (Elt F) f = (src L inp g).view.read (Elt F) X

/-- What the tile owes after waits of its own, `W` recorded before. -/
def Owes (O : CellTallies nD τ sig (HIx 1)) (W : Waits sig (HIx 1)) : sProp 𝕄 :=
  iprop(∃ W', ⌜∀ p ∈ W', p ∈ W ∨ p.2 = none⌝ ∗ owes (tile d L) O W')

theorem wp_fetch (g : Fin 8) (Q : PUnit → sProp 𝕄) :
    iprop(srcPts d L X g ∗ Idle d L mem sem)
      ⊢ iprop((Coming d L X mem sem g -∗ Q ⟨⟩)
          -∗ wp frame (wpE (defs₀ (F := F)) 𝒱₀ (tile d L) none) Set.univ (fetch L inp g mem hmem sem) Q) := by
  unfold Idle Coming
  iintro ⟨Hs, ⟨%f, Hm⟩, Hv⟩ Hk
  iapply (Transfers.wp_dmaLocal countersEmb 𝒱₀ (tile d L) none (src := src L inp g) (dst := mem) (sm := .dma sem.sem)
    (default : HIx 1) _ rfl (View.amount_pos _ _ (by decide)) (all_set mem).ge) $$ [Hs Hm Hv]
  · isplitl [Hs]; · iexact Hs
    isplitl [Hm]; · iexact Hm
    iexact Hv
  iintro Hf
  rw [wp_ret]
  imodintro
  iapply Hk
  iexists f
  iexact Hf

theorem wp_await (g : Fin 8) (O : CellTallies nD τ sig (HIx 1)) (W : Waits sig (HIx 1)) (Q : PUnit → sProp 𝕄) :
    iprop(Transfers.MayWaits (tile d L) (default : HIx 1) O ∗ Coming d L X mem sem g ∗ Owes d L O W)
      ⊢ iprop((iprop(srcPts d L X g ∗ (∃ f, ⌜Holds d L X mem g f⌝ ∗ memPts d L mem f) ∗ semVal (tile d L, .dma sem.sem) 0 ∗ Owes d L O W) -∗ Q ⟨⟩)
          -∗ wp frame (wpE (defs₀ (F := F)) 𝒱₀ (tile d L) none) Set.univ (await L inp g mem hmem sem) Q) := by
  unfold Coming Owes
  iintro ⟨Hmw, ⟨%f, Hf⟩, ⟨%W', %hW, HO⟩⟩ Hk
  iapply (Transfers.wp_waitLocalO countersEmb 𝒱₀ (tile d L) none (default : HIx 1) (dstw := mem) (sem := sem.sem) rfl) $$ [Hf HO Hmw]
  · isplitl [Hf]; · iexact Hf
    isplitl [HO]; · iexact HO
    iapply (Transfers.MayWaits.elim (SemLoc.dma sem.sem)) $$ Hmw
  iintro ⟨⟨Hm, Hs⟩, Hv, HO⟩
  rw [wp_ret]
  imodintro
  iapply Hk
  isplitl [Hs]; · iexact Hs
  isplitl [Hm]
  · iexists _
    isplitr
    swap; · iexact Hm
    ipureintro
    exact (all_read d L mem _).trans (View.read_write_univ _ _)
  isplitl [Hv]; · iexact Hv
  iexists _
  isplitr
  swap; · iexact HO
  ipureintro
  intro p hp
  rcases Finset.mem_insert.mp hp with hp | hp
  · exact .inr (hp ▸ rfl)
  · exact hW p hp

end Stage

/-! ## A block's counts -/

/-- The counts of the first `n` blocks are in the count buffer. -/
def Done (n : ℕ) (g : Cnt d L F) : Prop := ∀ k : Fin 256, k.val < 32 * n → g (at1 k) = entry (rowX X (rowAt L k))

/-- The count buffer with the counts of the first `n` blocks. -/
def Counts (n : ℕ) : sProp 𝕄 := iprop(∃ g : Cnt d L F, ⌜Done d L X n g⌝ ∗ ((tile d L).loc cc0_scratch2 ↦{fullShare} g))

/-- Block `g` counted after the blocks before it. -/
theorem done_succ (mem : Memref sig .scVector .vmem S32x1024 .i32) (g : Fin 8) (f : Buf (Elt F) ((all mem).loc (tile d L))) (hf : Holds d L X mem g f)
    (c c' : Cnt d L F) (hc : Done d L X g.val c) (h : Counted d L mem f (32 * g.val) 2 c c') : Done d L X (g.val + 1) c' := by
  intro k hk
  by_cases hlt : k.val < 32 * g.val
  · rw [h.2 k (.inl hlt)]; exact hc k hlt
  · have hr : k.val - 32 * g.val < 32 := by omega
    rw [h.1 k ⟨k.val - 32 * g.val, hr⟩ (by simp only; omega) (by simp only; omega), hf]
    exact congrArg entry (src_row (F := F) L X g ⟨k.val - 32 * g.val, hr⟩ k (by simp only; omega))

theorem wp_count (mem : Memref sig .scVector .vmem S32x1024 .i32) (sem : DmaSems sig S_) (g : Fin 8)
    (off : Fin k0_t1_loop.trips → Fin 1 → ℕ) (hoff : ∀ q a, off q a + S16.size a ≤ S256.size a) (hval : ∀ q, off q = ![16 * q.val + 32 * g.val])
    (Q : PUnit → sProp 𝕄) :
    iprop((∃ f, ⌜Holds d L X mem g f⌝ ∗ memPts d L mem f) ∗ semVal (tile d L, .dma sem.sem) 0 ∗ Counts d L X g.val)
      ⊢ iprop((iprop(Idle d L mem sem ∗ Counts d L X (g.val + 1)) -∗ Q ⟨⟩)
          -∗ wp frame (wpE (defs₀ (F := F)) 𝒱₀ (tile d L) none) Set.univ (block L mem cnt off hoff) Q) := by
  unfold Idle Counts
  iintro ⟨⟨%f, %hf, Hm⟩, Hv, ⟨%c, %hc, Hc⟩⟩ Hk
  iapply (wp_wand_r frame _ _)
  isplitl [Hm Hc]
  · iapply (wp_block d L mem f off hoff (32 * g.val) (by omega) (fun q => by rw [hval q]; show 16 * q.val + 32 * g.val = _; omega) c)
    isplitl [Hm] <;> iassumption
  iintro %u ⟨Hm, %c', %hc', Hc⟩
  iapply Hk
  isplitl [Hm Hv]
  · isplitl [Hm]
    · iexists f; iexact Hm
    · iexact Hv
  iexists c'
  isplitr
  swap; · iexact Hc
  ipureintro
  exact done_succ d L X mem g f hf c c' hc hc'

/-! ## The copy out -/

/-- The counts copied to the tile's piece of the result are the degrees of its rows. -/
theorem dst_written (c : Cnt d L F) (hc : Done d L X 8 c) (Y : IVec S8192 32) :
    ((dst L out).view.loc (tile d L) ↦[(dst L out).view.set]{fullShare} (dst L out).view.write (Elt F) Y (cnt.view.read (Elt F) c) Finset.univ : sProp 𝕄)
      = dstPts d L (degrees X) := by
  refine pointsTo_congr fun n hn => ?_
  obtain ⟨y, -, rfl⟩ := Finset.mem_map.mp hn
  refine ((View.write_emb_of_mem _ _ (Finset.mem_univ _)).trans (cast_eq _ _)).trans ?_
  have hy : at1 (y 0) = y := by funext a; match a with | 0 => rfl
  show c y = entry (rowX X _)
  have := hc (y 0) (by have : (y 0).val < 256 := (y 0).isLt; omega)
  rw [hy] at this
  rw [this]
  refine congrArg (fun n => entry (rowX X n)) (Fin.ext ?_)
  refine Eq.symm ((ValueKit.view_emb_slice_whole_unit_val _ _ _ _ _ _).trans ?_)
  refine (congrArg (· + (y 0).val) (congrFun (k0_off10_eq L) 0)).trans ?_
  rfl

/-! ## The tile's own semaphores and buffers -/

/-- The semaphores of the two staging buffers and of the copy out. -/
abbrev cellA (c : Fin τ.nSC) (i : Fin τ.nSub) : GSem nD τ sig := (V d c i, .dma cc0_scratch3.sem)
abbrev cellB (c : Fin τ.nSC) (i : Fin τ.nSub) : GSem nD τ sig := (V d c i, .dma cc0_scratch4.sem)
abbrev cellC (c : Fin τ.nSC) (i : Fin τ.nSub) : GSem nD τ sig := (V d c i, .dma cc0_scoped0.sem)

theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scratch3.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped0.sem : SemLoc sig).isScoped .scVector = true; decide⟩⟩⟩)]

/-- The tile's other buffers. -/
abbrev otherBufs : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ otherBufs d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The staging buffers. -/
abbrev stgA : Memref sig .scVector .vmem S32x1024 .i32 := Memref.whole cc0_scratch0
abbrev stgB : Memref sig .scVector .vmem S32x1024 .i32 := Memref.whole cc0_scratch1

theorem pts_stgA (f : Buf (Elt F) ((tile d L).loc cc0_scratch0)) : (memPts d L stgA f : sProp 𝕄) = ((tile d L).loc cc0_scratch0 ↦{fullShare} f) := by
  have h : (all stgA).set = Finset.univ := (all_set stgA).trans (View.set_whole _)
  unfold memPts; rw [h]
theorem pts_stgB (f : Buf (Elt F) ((tile d L).loc cc0_scratch1)) : (memPts d L stgB f : sProp 𝕄) = ((tile d L).loc cc0_scratch1 ↦{fullShare} f) := by
  have h : (all stgB).set = Finset.univ := (all_set stgB).trans (View.set_whole _)
  unfold memPts; rw [h]
theorem pts_cnt (f : Cnt d L F) : (cnt.view.loc (tile d L) ↦[cnt.view.set]{fullShare} f : sProp 𝕄) = ((tile d L).loc cc0_scratch2 ↦{fullShare} f) := by
  have h : cnt.view.set = Finset.univ := View.set_whole _
  rw [h]

/-- A tile's eight blocks of the matrix, one by one. -/
theorem blocks_eq (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Block `n` counted and the one after the next fetched in its place. -/
theorem wp_turn (mem : Memref sig .scVector .vmem S32x1024 .i32) (hmem : mem.IsWhole) (sem : DmaSems sig S_) (g g' : Fin 8)
    (off : Fin k0_t1_loop.trips → Fin 1 → ℕ) (hoff : ∀ q a, off q a + S16.size a ≤ S256.size a) (hval : ∀ q, off q = ![16 * q.val + 32 * g.val])
    (O : CellTallies nD τ sig (HIx 1)) (W : Waits sig (HIx 1)) (k : TileProg F L PUnit) (Q : PUnit → sProp 𝕄) :
    iprop(Transfers.MayWaits (tile d L) (default : HIx 1) O ∗ Coming d L X mem sem g ∗ Owes d L O W ∗ Counts d L X g.val ∗ srcPts d L X g')
      ⊢ iprop((iprop(srcPts d L X g ∗ Coming d L X mem sem g' ∗ Owes d L O W ∗ Counts d L X (g.val + 1))
            -∗ wp frame (wpE (defs₀ (F := F)) 𝒱₀ (tile d L) none) Set.univ k Q)
          -∗ wp frame (wpE (defs₀ (F := F)) 𝒱₀ (tile d L) none) Set.univ
              (do await L inp g mem hmem sem; block L mem cnt off hoff; fetch L inp g' mem hmem sem; k) Q) := by
  simp only [wp_bind]
  iintro ⟨Hmw, Hf, HO, Hc, Hs'⟩ Hk
  iapply (wp_await d L X mem hmem sem g O W) $$ [Hmw Hf HO]
  · isplitl [Hmw]; · iexact Hmw
    isplitl [Hf]; · iexact Hf
    iexact HO
  iintro ⟨Hs, Hm, Hv, HO⟩
  iapply (wp_count d L X mem sem g off hoff hval) $$ [Hm Hv Hc]
  · isplitl [Hm]; · iexact Hm
    isplitl [Hv]; · iexact Hv
    iexact Hc
  iintro ⟨Hi, Hc⟩
  iapply (wp_fetch d L X mem hmem sem g') $$ [Hi Hs']
  · isplitl [Hs']; · iexact Hs'
    iexact Hi
  iintro Hf
  iapply Hk
  isplitl [Hs]; · iexact Hs
  isplitl [Hf]; · iexact Hf
  isplitl [HO]; · iexact HO
  iexact Hc

/-- What a tile is handed: its eight blocks of the matrix at `X` and its piece of the result. -/
def given (Y : IVec S8192 32) : sProp 𝕄 := iprop((bigSep Finset.univ fun g : Fin 8 => srcPts d L X g) ∗ dstPts d L Y)

theorem given_eq (Y : IVec S8192 32) :
    (given d L X Y : sProp 𝕄) = iprop((srcPts d L X 0 ∗ srcPts d L X 1 ∗ srcPts d L X 2 ∗ srcPts d L X 3 ∗ srcPts d L X 4 ∗ srcPts d L X 5
      ∗ srcPts d L X 6 ∗ srcPts d L X 7) ∗ dstPts d L Y) := by
  unfold given; rw [blocks_eq]

/-- The task: handed its rows at `X`, the tile hands them back with its piece of the result at their degrees. -/
theorem tile_body (hF : (K (F := F)).Facts) (O : CellTallies nD τ sig (HIx 1)) (W : Waits sig (HIx 1)) (hO : ∀ g, O g none = 0) (Y : IVec S8192 32) :
    iprop(levAts (K (F := F)).L (K (F := F)).lev ∗ emp ∗ given d L X Y
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_degree L inp (Memref.isWhole_whole _) out (Memref.isWhole_whole _) stgA (Memref.isWhole_whole _) stgB (Memref.isWhole_whole _)
            cnt (Memref.isWhole_whole _) cc0_scratch3 cc0_scratch4 cc0_scoped0)
          fun _ => iprop(given d L X (degrees X)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [degree_eq, (K (F := F)).scopedBufs_V hF d (cV L) (jV L), SparseCore.Cfg.scopedSems0_V (Val := Elt F) d (cV L) (jV L), ownSems0_V, ownBufs_V,
    given_eq, given_eq]
  unfold degree
  iintro ⟨#Hlv, -, ⟨⟨H0, H1, H2, H3, H4, H5, H6, H7⟩, Hy⟩, ⟨⟨%fa, Ha⟩, ⟨%fb, Hb⟩, ⟨%fc, Hc⟩, Hbufs⟩, ⟨HsA, HsB, HsC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave IA : Idle d L stgA cc0_scratch3 $$ [Ha HsA]
  · unfold Idle
    isplitl [Ha]
    · iexists fa; rw [pts_stgA]; iexact Ha
    · iexact HsA
  ihave IB : Idle d L stgB cc0_scratch4 $$ [Hb HsB]
  · unfold Idle
    isplitl [Hb]
    · iexists fb; rw [pts_stgB]; iexact Hb
    · iexact HsB
  ihave Hc : Counts d L X 0 $$ [Hc]
  · unfold Counts
    iexists fc
    isplitr
    · ipureintro; exact fun k hk => absurd hk (by omega)
    · iexact Hc
  ihave HO : Owes d L O W $$ [HO]
  · unfold Owes
    iexists W
    isplitr
    · ipureintro; exact fun p hp => .inl hp
    · iexact HO
  rw [wp_bind]
  iapply (wp_fetch d L X stgA (Memref.isWhole_whole _) cc0_scratch3 0) $$ [H0 IA]
  · isplitl [H0]; · iexact H0
    iexact IA
  iintro FA
  rw [wp_bind]
  iapply (wp_fetch d L X stgB (Memref.isWhole_whole _) cc0_scratch4 1) $$ [H1 IB]
  · isplitl [H1]; · iexact H1
    iexact IB
  iintro FB
  iapply (wp_turn d L X stgA (Memref.isWhole_whole _) cc0_scratch3 0 2 k0_off2 k0_off2_inb k0_off2_eq O W) $$ [FA HO Hc H2]
  · isplitr; · iexact Hmw
    isplitl [FA]; · iexact FA
    isplitl [HO]; · iexact HO
    isplitl [Hc]; · iexact Hc
    iexact H2
  iintro ⟨H0, FA, HO, Hc⟩
  iapply (wp_turn d L X stgB (Memref.isWhole_whole _) cc0_scratch4 1 3 k0_off3 k0_off3_inb k0_off3_eq O W) $$ [FB HO Hc H3]
  · isplitr; · iexact Hmw
    isplitl [FB]; · iexact FB
    isplitl [HO]; · iexact HO
    isplitl [Hc]; · iexact Hc
    iexact H3
  iintro ⟨H1, FB, HO, Hc⟩
  iapply (wp_turn d L X stgA (Memref.isWhole_whole _) cc0_scratch3 2 4 k0_off4 k0_off4_inb k0_off4_eq O W) $$ [FA HO Hc H4]
  · isplitr; · iexact Hmw
    isplitl [FA]; · iexact FA
    isplitl [HO]; · iexact HO
    isplitl [Hc]; · iexact Hc
    iexact H4
  iintro ⟨H2, FA, HO, Hc⟩
  iapply (wp_turn d L X stgB (Memref.isWhole_whole _) cc0_scratch4 3 5 k0_off5 k0_off5_inb k0_off5_eq O W) $$ [FB HO Hc H5]
  · isplitr; · iexact Hmw
    isplitl [FB]; · iexact FB
    isplitl [HO]; · iexact HO
    isplitl [Hc]; · iexact Hc
    iexact H5
  iintro ⟨H3, FB, HO, Hc⟩
  iapply (wp_turn d L X stgA (Memref.isWhole_whole _) cc0_scratch3 4 6 k0_off6 k0_off6_inb k0_off6_eq O W) $$ [FA HO Hc H6]
  · isplitr; · iexact Hmw
    isplitl [FA]; · iexact FA
    isplitl [HO]; · iexact HO
    isplitl [Hc]; · iexact Hc
    iexact H6
  iintro ⟨H4, FA, HO, Hc⟩
  iapply (wp_turn d L X stgB (Memref.isWhole_whole _) cc0_scratch4 5 7 k0_off7 k0_off7_inb k0_off7_eq O W) $$ [FB HO Hc H7]
  · isplitr; · iexact Hmw
    isplitl [FB]; · iexact FB
    isplitl [HO]; · iexact HO
    isplitl [Hc]; · iexact Hc
    iexact H7
  iintro ⟨H5, FB, HO, Hc⟩
  rw [wp_bind]
  iapply (wp_await d L X stgA (Memref.isWhole_whole _) cc0_scratch3 6 O W) $$ [FA HO]
  · isplitr; · iexact Hmw
    isplitl [FA]; · iexact FA
    iexact HO
  iintro ⟨H6, Hm, Hv, HO⟩
  rw [wp_bind]
  iapply (wp_count d L X stgA cc0_scratch3 6 k0_off8 k0_off8_inb k0_off8_eq) $$ [Hm Hv Hc]
  · isplitl [Hm]; · iexact Hm
    isplitl [Hv]; · iexact Hv
    iexact Hc
  iintro ⟨IA, Hc⟩
  rw [wp_bind]
  iapply (wp_await d L X stgB (Memref.isWhole_whole _) cc0_scratch4 7 O W) $$ [FB HO]
  · isplitr; · iexact Hmw
    isplitl [FB]; · iexact FB
    iexact HO
  iintro ⟨H7, Hm, Hv, HO⟩
  rw [wp_bind]
  iapply (wp_count d L X stgB cc0_scratch4 7 k0_off9 k0_off9_inb k0_off9_eq) $$ [Hm Hv Hc]
  · isplitl [Hm]; · iexact Hm
    isplitl [Hv]; · iexact Hv
    iexact Hc
  iintro ⟨IB, Hc⟩
  unfold Counts Owes Idle
  icases Hc with ⟨%c, %hc, Hc⟩
  icases HO with ⟨%W', %hW, HO⟩
  icases IA with ⟨⟨%fa', Ha⟩, HsA⟩
  icases IB with ⟨⟨%fb', Hb⟩, HsB⟩
  rw [wp_bind]
  iapply (Transfers.wp_dmaLocal countersEmb 𝒱₀ (tile d L) none (src := cnt) (dst := dst L out) (sm := .dma cc0_scoped0.sem) (q := fullShare) (fs := c)
    (default : HIx 1) _ rfl (View.amount_pos _ _ (by decide)) (le_refl _)) $$ [Hc Hy HsC]
  · isplitl [Hc]; · rw [pts_cnt]; iexact Hc
    isplitl [Hy]; · iexact Hy
    iexact HsC
  iintro Hf
  rw [wp_ret]
  imodintro
  rw [wp_bind]
  iapply (Transfers.wp_waitLocalO countersEmb 𝒱₀ (tile d L) none (default : HIx 1) (dstw := dst L out) (sem := cc0_scoped0.sem) rfl) $$ [Hf HO]
  · isplitl [Hf]; · iexact Hf
    isplitl [HO]; · iexact HO
    iapply (Transfers.MayWaits.elim (SemLoc.dma cc0_scoped0.sem)) $$ Hmw
  iintro ⟨⟨Hy, Hc⟩, HsC, HO⟩
  simp only [wp_ret, Prog.pure_eq_ret]
  imodintro
  imodintro
  ihave Hy := (Entails.of_eq (dst_written d L X c hc Y)) $$ Hy
  isplitl [H0 H1 H2 H3 H4 H5 H6 H7 Hy]
  · isplitr [Hy]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact Hy
  isplitl [Ha Hb Hc Hbufs]
  · isplitl [Ha]; · iexists fa'; iapply (Entails.of_eq (pts_stgA d L fa')); iexact Ha
    isplitl [Hb]; · iexists fb'; iapply (Entails.of_eq (pts_stgB d L fb')); iexact Hb
    isplitl [Hc]; · iexists c; iapply (Entails.of_eq (pts_cnt d L c)); iexact Hc
    iexact Hbufs
  isplitl [HsA HsB HsC Hsems]
  · isplitl [HsA]; · iexact HsA
    isplitl [HsB]; · iexact HsB
    isplitl [HsC]; · iexact HsC
    iexact Hsems
  iexists _
  isplitr
  swap; · iexact HO
  ipureintro
  intro p hp
  rcases Finset.mem_insert.mp hp with hp | hp
  · exact .inr (hp ▸ rfl)
  · exact hW p hp

end Cert.Proof.Tile
-- ==== Proof.Pieces.lean ====
/-
  The 32 tiles' pieces of the SparseCore call's two arrays: every row of the matrix lies in exactly one block of one tile, and
  every entry of the result in exactly one tile's piece, so the arrays held whole are the tiles' pieces held together.
-/
module

public import proofs.«01_k».proof.Proof.Tile

@[expose] public section

noncomputable section

namespace Cert.Proof.Pieces

open Cert.KernelIdeal Cert.KernelIdeal.Gen Cert.Proof.Shape Cert.Proof.Base Cert.Proof.Tally Cert.Proof.Block Cert.Proof.Tile
open Idealize.ShloMosaic
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The grid point of SparseCore `c`, subcore `i`. -/
def coordsV (c : Fin (grid0.bound 0)) (i : Fin (grid0.bound 1)) : grid0.Coords :=
  fun | 0 => c | 1 => i | ⟨_ + 2, h⟩ => absurd h (Nat.not_lt.2 (Nat.le_add_left _ _))

theorem first_coordsV (c : Fin 2) (i : Fin 16) : first (coordsV c i) = 512 * i.val + 256 * c.val := rfl

/-- An element of the matrix is in a tile's block when its row is. -/
theorem mem_src (L : grid0.Coords) (g : Fin 8) (y : S8192x1024.Idx) :
    y ∈ (src L inp g).view.set ↔ first L + 32 * g.val ≤ (y 0).val ∧ (y 0).val < first L + 32 * g.val + 32 := by
  have hs : (src L inp g).view.set = (Rect.unit (s := S8192x1024) (k0_off1 L (BitVec.ofNat 32 (32 * g.val))) S32x1024.size (k0_off1_inb L g)).set :=
    (View.set_slice _ _).trans Finset.map_refl
  rw [hs, Rect.mem_set_unit]
  have h0 : k0_off1 L (BitVec.ofNat 32 (32 * g.val)) 0 = first L + 32 * g.val := congrFun (k0_off1_eq L g) 0
  have h1 : k0_off1 L (BitVec.ofNat 32 (32 * g.val)) 1 = 0 := congrFun (k0_off1_eq L g) 1
  constructor
  · intro h; have := h 0; rw [h0] at this; exact this
  · intro h a
    match a with
    | 0 => rw [h0]; exact h
    | 1 => rw [h1]; exact ⟨Nat.zero_le _, by rw [Nat.zero_add]; exact (y 1).isLt⟩

/-- An entry of the result is in a tile's piece when its number is. -/
theorem mem_dst (L : grid0.Coords) (y : S8192.Idx) :
    y ∈ (dst L out).view.set ↔ first L ≤ (y 0).val ∧ (y 0).val < first L + 256 := by
  have hs : (dst L out).view.set = (Rect.unit (s := S8192) (k0_off10 L) S256.size (k0_off10_inb L)).set :=
    (View.set_slice _ _).trans Finset.map_refl
  rw [hs, Rect.mem_set_unit]
  have h0 : k0_off10 L 0 = first L := congrFun (k0_off10_eq L) 0
  constructor
  · intro h; have := h 0; rw [h0] at this; exact this
  · intro h a
    match a with
    | 0 => rw [h0]; exact h

/-- The matrix whole is its 256 blocks. -/
theorem whole_src (d : Dev nD) (X : IVec S8192x1024 32) :
    (((SparseCore.T d : Thread nD τ).loc main_v0) ↦{fullShare} X : sProp 𝕄)
      = bigSep Finset.univ fun c : Fin 2 => bigSep Finset.univ fun i : Fin 16 => bigSep Finset.univ fun g : Fin 8 => srcPts d (coordsV c i) X g := by
  have hcov : (Finset.univ : Finset (Fin 2 × Fin 16 × Fin 8)).biUnion (fun p => (src (coordsV p.1 p.2.1) inp p.2.2).view.set)
      = (Finset.univ : Finset S8192x1024.Idx) := by
    refine Finset.eq_univ_iff_forall.mpr fun y => Finset.mem_biUnion.mpr ?_
    have hy : (y 0).val < 8192 := (y 0).isLt
    refine ⟨(⟨(y 0).val / 256 % 2, by omega⟩, ⟨(y 0).val / 512, by omega⟩, ⟨(y 0).val / 32 % 8, by omega⟩), Finset.mem_univ _, ?_⟩
    rw [mem_src, first_coordsV]
    dsimp only; omega
  have hdis : ∀ p ∈ (Finset.univ : Finset (Fin 2 × Fin 16 × Fin 8)), ∀ p' ∈ (Finset.univ : Finset (Fin 2 × Fin 16 × Fin 8)), p ≠ p' →
      Disjoint (src (coordsV p.1 p.2.1) inp p.2.2).view.set (src (coordsV p'.1 p'.2.1) inp p'.2.2).view.set := by
    rintro ⟨c, i, g⟩ - ⟨c', i', g'⟩ - hne
    refine Finset.disjoint_left.mpr fun y h h' => hne ?_
    rw [mem_src, first_coordsV] at h h'
    dsimp only at h h'
    have hc : c = c' := Fin.ext (by omega)
    have hi : i = i' := Fin.ext (by omega)
    have hg : g = g' := Fin.ext (by omega)
    rw [hc, hi, hg]
  have h : (((SparseCore.T d : Thread nD τ).loc main_v0) ↦{fullShare} X : sProp 𝕄)
      = bigSep Finset.univ fun p : Fin 2 × Fin 16 × Fin 8 => srcPts d (coordsV p.1 p.2.1) X p.2.2 := by
    refine Eq.trans ?_ (pointsTo_biUnion Finset.univ (ℓ := (SparseCore.T d : Thread nD τ).loc main_v0) _ hdis)
    rw [hcov]
  rw [h, ← Finset.univ_product_univ, SparseCore.bigSep_product]
  refine bigSep_congr fun c _ => ?_
  rw [← Finset.univ_product_univ, SparseCore.bigSep_product]

/-- The result whole is its 32 pieces. -/
theorem whole_dst (d : Dev nD) (Y : IVec S8192 32) :
    (((SparseCore.T d : Thread nD τ).loc main_v1) ↦{fullShare} Y : sProp 𝕄)
      = bigSep Finset.univ fun c : Fin 2 => bigSep Finset.univ fun i : Fin 16 => dstPts d (coordsV c i) Y := by
  have hcov : (Finset.univ : Finset (Fin 2 × Fin 16)).biUnion (fun p => (dst (coordsV p.1 p.2) out).view.set) = (Finset.univ : Finset S8192.Idx) := by
    refine Finset.eq_univ_iff_forall.mpr fun y => Finset.mem_biUnion.mpr ?_
    have hy : (y 0).val < 8192 := (y 0).isLt
    refine ⟨(⟨(y 0).val / 256 % 2, by omega⟩, ⟨(y 0).val / 512, by omega⟩), Finset.mem_univ _, ?_⟩
    rw [mem_dst, first_coordsV]
    dsimp only; omega
  have hdis : ∀ p ∈ (Finset.univ : Finset (Fin 2 × Fin 16)), ∀ p' ∈ (Finset.univ : Finset (Fin 2 × Fin 16)), p ≠ p' →
      Disjoint (dst (coordsV p.1 p.2) out).view.set (dst (coordsV p'.1 p'.2) out).view.set := by
    rintro ⟨c, i⟩ - ⟨c', i'⟩ - hne
    refine Finset.disjoint_left.mpr fun y h h' => hne ?_
    rw [mem_dst, first_coordsV] at h h'
    dsimp only at h h'
    have hc : c = c' := Fin.ext (by omega)
    have hi : i = i' := Fin.ext (by omega)
    rw [hc, hi]
  have h : (((SparseCore.T d : Thread nD τ).loc main_v1) ↦{fullShare} Y : sProp 𝕄)
      = bigSep Finset.univ fun p : Fin 2 × Fin 16 => dstPts d (coordsV p.1 p.2) Y := by
    refine Eq.trans ?_ (pointsTo_biUnion Finset.univ (ℓ := (SparseCore.T d : Thread nD τ).loc main_v1) _ hdis)
    rw [hcov]
  rw [h, ← Finset.univ_product_univ, SparseCore.bigSep_product]

/-- Both arrays whole are what the 32 tiles are given. -/
theorem whole_given (d : Dev nD) (X : IVec S8192x1024 32) (Y : IVec S8192 32) :
    iprop((((SparseCore.T d : Thread nD τ).loc main_v0) ↦{fullShare} X) ∗ (((SparseCore.T d : Thread nD τ).loc main_v1) ↦{fullShare} Y) : sProp 𝕄)
      = bigSep Finset.univ fun c : Fin 2 => bigSep Finset.univ fun i : Fin 16 => given d (coordsV c i) X Y := by
  rw [whole_src, whole_dst, ← bigSep_sep']
  refine bigSep_congr fun c _ => ?_
  rw [← bigSep_sep']
  exact bigSep_congr fun i _ => rfl

end Cert.Proof.Pieces
-- ==== Proof.Lookup.lean ====
/-
  The table lookup on the TensorCore: each of the call's two blocks of 4096 degrees is turned into one-hot rows, which a
  matrix product with the table turns into the rows that the degrees name.
-/
module

public import proofs.«01_k».proof.Proof.Tile
public import Idealize.ShloMosaic.Lib.VecWindow
public import Idealize.ShloMosaic.Lib.Pipeline.RegionsLoop

@[expose] public section

noncomputable section

namespace Cert.Proof.Lookup

open Cert.KernelIdeal Cert.KernelIdeal.Gen Cert.Proof.Shape Cert.Proof.Base Cert.Proof.Tally Cert.Proof.Block
open Idealize.ShloMosaic Idealize.ShloMosaic.TcCoe
open Idealize.ShloMosaic.SparseCore (S V T)
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## What one block computes -/

/-- The one-hot rows of 4096 indices. -/
def onehot (X : IVec S1x1x4096 32) : FVec F S4096x512 .f32 :=
  sitofp .f32 (extui 32 (cmpi .eq (iota .tc S4096x512 32 [1] iota_S4096x512_d1_w32)
    (broadcastTo S4096x512 (shapeCast S4096x1 (shapeCast S1x1x4096 X shapeCasts_S1x1x4096_S1x1x4096) shapeCasts_S1x1x4096_S4096x1)
      broadcasts_S4096x1_S4096x512)) natLt_1_32)

/-- The rows of the table that 4096 indices name, as the call computes them. -/
def lookup (X : IVec S1x1x4096 32) (tab : FVec F S512x512 .f32) : FVec F S4096x512 .f32 :=
  matmul dot_S4096x512_S512x512_S4096x512_1_0_0_1_n_n none (onehot X) tab (constant S4096x512 .f32 0x00000000#32)

/-- The call's body, over the three staging buffers: the indices and the table stay, the rows are written. -/
theorem wp_lookup (c : Dev nD) (i : grid1.Coords)
    (M0 : Memref sig .tc .vmem S1x1x4096 .i32) (h0 : M0.IsWhole) (M1 : Memref sig .tc .vmem S512x512 .f32) (h1 : M1.IsWhole)
    (M2 : Memref sig .tc .vmem S4096x512 .f32) (h2 : M2.IsWhole) (X : IVec S1x1x4096 32) (tab : FVec F S512x512 .f32)
    (Y : FVec F S4096x512 .f32) (E : Set ℕ) (Q : PUnit → sProp 𝕄) :
    iprop(owns (c : Thread nD τ) M0 fullShare X ∗ owns (c : Thread nD τ) M1 fullShare tab ∗ owns (c : Thread nD τ) M2 fullShare Y
        ∗ (iprop(owns (c : Thread nD τ) M0 fullShare X ∗ owns (c : Thread nD τ) M1 fullShare tab ∗ owns (c : Thread nD τ) M2 fullShare (lookup X tab)) -∗ Q ⟨⟩))
      ⊢ wp frame (wpE (defs₀ (F := F)) Variants.none c none) E (cc1__lookup_first_body i M0 h0 M1 h1 M2 h2) Q := by
  unfold owns
  iintro ⟨⟨%f0, %e0, H0⟩, ⟨%f1, %e1, H1⟩, ⟨%f2, -, H2⟩, Hk⟩
  sl_exec!
  sl_step
  iapply Hk
  isplitl [H0]; · iexists f0; isplitr; (· ipureintro; exact e0); iexact H0
  isplitl [H1]; · iexists f1; isplitr; (· ipureintro; exact e1); iexact H1
  iexists _; isplitr; swap; (· iexact H2)
  ipureintro
  refine (View.read_writes_full ..).trans ?_
  unfold wp_lookup.sl.v9
  rw [View.readAt_full, e1]
  unfold wp_lookup.sl.v7 wp_lookup.sl.v6 wp_lookup.sl.v5 wp_lookup.sl.v4 wp_lookup.sl.v2 wp_lookup.sl.v1
  rw [View.readAt_full, e0]
  rfl

/-! ## The call's data -/

/-- Block `t` of the indices. -/
def idxBlock (I : IVec S2x1x4096 32) (t : Fin 2) : IVec S1x1x4096 32 :=
  fun j => I fun a => match a with | 0 => t | 1 => (0 : Fin 1) | 2 => j 2

/-- The element of a block in row `r`, column `k`. -/
def at42 (r : Fin 4096) (k : Fin 512) : S4096x512.Idx := fun a => match a with | 0 => r | 1 => k

/-- The block that holds a row, and the row's number in it. -/
def blkOf (n : Fin 8192) : Fin 2 := ⟨n.val / 4096, by omega⟩
def inBlk (n : Fin 8192) : Fin 4096 := ⟨n.val % 4096, by omega⟩

/-- What the call writes: of each of the 8192 rows, the table's row that its index names, as the row's block computes it. -/
def looked (I : IVec S2x1x4096 32) (tab : FVec F S512x512 .f32) : FVec F S8192x512 .f32 :=
  fun y => lookup (idxBlock I (blkOf (y 0))) tab (at42 (inBlk (y 0)) (y 1))

variable (V : (c : Dev nD) → (b : Ref sig .tc) → Buf (Elt F) ((c : Thread nD τ).loc b))

/-- The waits that the TensorCore may have recorded by the call. -/
def seen (c : Dev nD) : Set (SemLoc sig × HIx 1) := {p | (K (F := F)).lev (T c, p.1) p.2 ≤ 8 * 1}

/-- A grid point as a block number. -/
def ptOf (t : Fin cfg1.N) : Fin 2 := ⟨t.val, lt_of_lt_of_eq t.isLt N_1⟩

/-- The data of the call entered at contents `V`: the three arrays at `V`; the index block and the table stay in their staging
    buffers, the rows are written; nothing is owed. -/
def dat (c : Dev nD) : Dat τ (Elt F) (HIx 1) ℕ UU ℕ cfg1 c where
  A w := V c (Pipeline.arrRef spec1 w)
  after w t := match w with
    | ⟨0, _⟩ => ((cfg1.win 0).blk t).view.read (Elt F) (V c main_v2)
    | ⟨1, _⟩ => ((cfg1.win 1).blk t).view.read (Elt F) (V c main_arg1)
    | ⟨2, _⟩ => lookup (idxBlock (V c main_v2) (ptOf t)) (V c main_arg1)
  Φ _ := BI.emp
  q _ := fullShare
  owed _ := 0
  recorded _ := seen (F := F) c

/-- The admissible contents of the call's prefetched tables: it has none. -/
abbrev adm : (p : Fin 1) → (pcfgs (F := F) p).Adm := fun p => (cfgs p).toPCfg_adm

/-- The data of every TensorCore call: there is one. -/
def pdats : (p : Fin 1) → (c : Dev nD) → Dat τ (Elt F) (HIx 1) ℕ UU ℕ (Pipeline.pin (pcfgs (F := F)) adm p) c := fun _ c => dat V c

/-- The blocks that a point addresses: the indices' and the result's are the point's own. -/
theorem index_val : ∀ t : Fin grid1.N, win1_0.index t 0 = t.val ∧ win1_0.index t 1 = 0 ∧ win1_0.index t 2 = 0
    ∧ win1_2.index t 0 = t.val ∧ win1_2.index t 1 = 0 := by decide

/-- What is fetched of the indices is their block. -/
theorem read_idx (c : Dev nD) (t : Fin cfg1.N) :
    ((cfg1.win 0).blk t).view.read (Elt F) (V c main_v2) = idxBlock (V c main_v2) (ptOf t) := by
  funext j
  refine congrArg (V c _) (funext fun a => Fin.ext ?_)
  match a with
  | 0 => blk_simp; exact (index_val t).1
  | 1 => blk_simp; exact (index_val t).2.1
  | 2 =>
    blk_simp; rw [show win1_0.index t 2 = 0 from (index_val t).2.2.1, Nat.zero_mul, Nat.zero_add]; rfl

/-- What is fetched of the table is the table. -/
theorem read_tab (c : Dev nD) (t : Fin cfg1.N) :
    ((cfg1.win 1).blk t).view.read (Elt F) (V c main_arg1) = V c main_arg1 := by
  funext j
  refine congrArg (V c _) (funext fun a => Fin.ext ?_)
  match a with
  | 0 => blk_simp; rw [show win1_1.index t 0 = 0 from rfl, Nat.zero_mul, Nat.zero_add]
  | 1 => blk_simp; rw [show win1_1.index t 1 = 0 from rfl, Nat.zero_mul, Nat.zero_add]

/-- Before the body the index buffer holds the point's block, -/
theorem before_idx (c : Dev nD) (t : Fin cfg1.N) (d) : (dat V c).before 0 t d = idxBlock (V c main_v2) (ptOf t) :=
  ((dat V c).before_in_eq_fetched 0 rfl (fun _ => rfl) (fun _ _ _ => rfl) (fun _ => rfl) t d).trans (read_idx V c t)

/-- and the table's buffer the table. -/
theorem before_tab (c : Dev nD) (t : Fin cfg1.N) (d) : (dat V c).before 1 t d = V c main_arg1 :=
  ((dat V c).before_in_eq_fetched 1 rfl (fun _ => rfl) (fun _ _ _ => rfl) (fun _ => rfl) t d).trans (read_tab V c t)

/-- The body at every point, on what the pipeline hands it. -/
theorem body_obligation (c : Dev nD) : BodyObligation (dat V c) (defs₀ (F := F)) 𝒱₀ (none : HIx 1) Set.univ := fun t => by
  rw [bigSep_W1, bigSep_W1]
  rw [show (dat V c).owesAt (none : HIx 1) t.succ = (dat V c).owesAt (none : HIx 1) t.castSucc from rfl]
  iintro ⟨HΦ, Howes, ⟨%d0, H0⟩, ⟨%d1, H1⟩, ⟨%d2, H2⟩⟩
  rw [before_idx, before_tab]
  iapply (wp_lookup c (grid1.coords t) (st1_0 t) (hstage1_0 ((cfg1.slots t 0).cast nbuf1_0)) (st1_1 t)
    (hstage1_1 ((cfg1.slots t 1).cast nbuf1_1)) (st1_2 t) (hstage1_2 ((cfg1.slots t 2).cast nbuf1_2)) (idxBlock (V c main_v2) (ptOf t)) (V c main_arg1) _ Set.univ _)
  isplitl [H0]; · iexact H0
  isplitl [H1]; · iexact H1
  isplitl [H2]; · iexact H2
  iintro ⟨H0, H1, H2⟩
  isplitl [HΦ]; · dsimp only [dat]; iexact HΦ
  isplitl [Howes]; · iexact Howes
  rw [show (dat V c).after 0 t = idxBlock (V c main_v2) (ptOf t) from read_idx V c t,
    show (dat V c).after 1 t = V c main_arg1 from read_tab V c t]
  isplitl [H0]; · iexact H0
  isplitl [H1]; · iexact H1
  iexact H2

/-- The result's array after the call. -/
theorem final (c : Dev nD) : (dat V c).arrAt 2 cfg1.N = looked (V c main_v2) (V c main_arg1) := by
  refine (dat V c).arrAt_eq_of_covers 2 _ (by decide +kernel) fun t hf y => ?_
  have e0 : (((win1_2.blk t).view.emb y) 0).val = t.val * 4096 + (y 0).val := by
    blk_simp; rw [show win1_2.index t 0 = t.val from (index_val t).2.2.2.1]
  have e1 : (((win1_2.blk t).view.emb y) 1).val = (y 1).val := by
    blk_simp; rw [show win1_2.index t 1 = 0 from (index_val t).2.2.2.2, Nat.zero_mul, Nat.zero_add]
  have hy : (y 0).val < 4096 := (y 0).isLt
  blk_simp
  show lookup (idxBlock (V c main_v2) (ptOf t)) (V c main_arg1) y
    = lookup (idxBlock (V c main_v2) (blkOf ((win1_2.blk t).view.emb y 0))) (V c main_arg1)
        (at42 (inBlk ((win1_2.blk t).view.emb y 0)) ((win1_2.blk t).view.emb y 1))
  have hb : blkOf ((win1_2.blk t).view.emb y 0) = ptOf t := Fin.ext (by
    show ((win1_2.blk t).view.emb y 0).val / 4096 = t.val
    rw [e0]; omega)
  have hr : at42 (inBlk ((win1_2.blk t).view.emb y 0)) ((win1_2.blk t).view.emb y 1) = y := funext fun a => match a with
    | 0 => Fin.ext (by show ((win1_2.blk t).view.emb y 0).val % 4096 = (y 0).val; rw [e0]; omega)
    | 1 => Fin.ext e1
  rw [hb, hr]

/-! ## The call over the thread's state -/

/-- What the TensorCore owes around the call: nothing, its recorded waits all within the SparseCore call's. -/
def Idle (c : Dev nD) : sProp 𝕄 :=
  iprop(∃ W, ⌜(K (F := F)).WBelow (T c) W (8 * 1)⌝ ∗ owes (T c : Thread nD τ) (0 : CellTallies nD τ sig (HIx 1)) W)

variable (Vp : (c : Dev nD) → (b : Ref sig .tc) → Buf (Elt F) ((c : Thread nD τ).loc b))

set_option backward.isDefEq.respectTransparency.types false in
/-- The call, entered with every buffer of @main at `V` and left with the result's array at the rows looked up, the others at `V`. -/
def reg (hout : ∀ c, Vp c main_v3 = looked (V c main_v2) (V c main_arg1)) (hne : ∀ c (b : Ref sig .tc), b ≠ main_v3 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Idle c)
  post c := iprop(unscopedBufs c (Vp c) ∗ Idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    unfold Idle
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl]
    iintro -
    isplitr; · iempintro
    isplitr; · iempintro
    rw [show Pipeline.scopedRest (pcfgs (F := F) 0).spec c = (BI.emp : sProp 𝕄) from scopedRest1_eq c]
    iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v2 (by decide)).symm
        · exact ((pdats V 0 c).arrAt_in 1 rfl _).trans (hne c main_arg1 (by decide)).symm
        · exact (final V c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Idle Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Lookup
-- ==== Proof.Launch.lean ====
/-
  The program's run, over any float values: the degrees' array and the result after @main, from the two launches, the arguments
  kept, every semaphore at zero.
-/
module

public import proofs.«01_k».proof.Proof.Pieces
public import proofs.«01_k».proof.Proof.Lookup

@[expose] public section

noncomputable section

namespace Cert.Proof.Launch

open Cert.KernelIdeal Cert.KernelIdeal.Gen Cert.Proof.Shape Cert.Proof.Base Cert.Proof.Tally Cert.Proof.Block Cert.Proof.Tile Cert.Proof.Pieces
open Cert.Proof.Lookup (looked reg adm pdats)
open Idealize.ShloMosaic Idealize.ShloMosaic.TcCoe
open Idealize.ShloMosaic.SparseCore (S V)
open Idealize.ShloMosaic.SparseCore.Cfg
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays along @main -/

abbrev arg0' : DevRef τ sig := (Proc.tc : Proc τ).devRef main_arg0
abbrev arg1' : DevRef τ sig := (Proc.tc : Proc τ).devRef main_arg1
abbrev v0' : DevRef τ sig := (Proc.tc : Proc τ).devRef main_v0
abbrev v1' : DevRef τ sig := (Proc.tc : Proc τ).devRef main_v1
abbrev v2' : DevRef τ sig := (Proc.tc : Proc τ).devRef main_v2
abbrev v3' : DevRef τ sig := (Proc.tc : Proc τ).devRef main_v3
abbrev v4' : DevRef τ sig := (Proc.tc : Proc τ).devRef main_v4

/-- The three reshapes of @main. -/
abbrev opA : HloOp τ sig (Elt F) := StableHlo.reshape main_arg0 main_v0 (rfl : (.i32 : EltTy) = .i32) shapeCasts_S8x1024x1024_S8192x1024
abbrev opB : HloOp τ sig (Elt F) := StableHlo.reshape main_v1 main_v2 (rfl : (.i32 : EltTy) = .i32) shapeCasts_S8192_S2x1x4096
abbrev opC : HloOp τ sig (Elt F) := StableHlo.reshape main_v3 main_v4 (rfl : (.f32 : EltTy) = .f32) shapeCasts_S8192x512_S8x1024x512

/-- The contents at the launch, and after each of @main's five statements. -/
def V0 (d : Dev nD) : Valuation τ sig (Elt F) := fun b => m (d, b)
def V1 (d : Dev nD) : Valuation τ sig (Elt F) := opA.result (V0 m d)
def V2 (d : Dev nD) : Valuation τ sig (Elt F) := Function.update (V1 m d) v1' (degrees (V1 m d v0'))
def V3 (d : Dev nD) : Valuation τ sig (Elt F) := opB.result (V2 m d)
def V4 (d : Dev nD) : Valuation τ sig (Elt F) := Function.update (V3 m d) v3' (looked (V3 m d v2') (V3 m d arg1'))
def V5 (d : Dev nD) : Valuation τ sig (Elt F) := opC.result (V4 m d)

/-- The distances as a matrix, and the result as @main reshapes them. -/
def matrix (D : IVec S8x1024x1024 32) : IVec S8192x1024 32 := shapeCast S8192x1024 D shapeCasts_S8x1024x1024_S8192x1024
def result (D : IVec S8x1024x1024 32) (tab : FVec F S512x512 .f32) : FVec F S8x1024x512 .f32 :=
  shapeCast S8x1024x512 (looked (shapeCast S2x1x4096 (degrees (matrix D)) shapeCasts_S8192_S2x1x4096) tab) shapeCasts_S8192x512_S8x1024x512

theorem ne_of {a b : Ref sig .tc} (h : a ≠ b) : (Proc.tc : Proc τ).devRef a ≠ (Proc.tc : Proc τ).devRef b := StableHlo.devRef_ne_of_ne h

theorem V1_v0 (d : Dev nD) : V1 m d v0' = matrix (V0 m d arg0') := StableHlo.reshape_result _ _ _ _ _ _ _
theorem V1_ne (d : Dev nD) {b : Ref sig .tc} (h : b ≠ main_v0) : V1 m d ((Proc.tc : Proc τ).devRef b) = V0 m d ((Proc.tc : Proc τ).devRef b) :=
  StableHlo.reshape_result_ne _ _ _ _ _ _ _ h
theorem V2_v1 (d : Dev nD) : V2 m d v1' = degrees (V1 m d v0') := Function.update_self _ _ _
theorem V2_ne (d : Dev nD) {b : DevRef τ sig} (h : b ≠ v1') : V2 m d b = V1 m d b := Function.update_of_ne h _ _
theorem V3_v2 (d : Dev nD) : V3 m d v2' = shapeCast S2x1x4096 (V2 m d v1') shapeCasts_S8192_S2x1x4096 := StableHlo.reshape_result _ _ _ _ _ _ _
theorem V3_ne (d : Dev nD) {b : Ref sig .tc} (h : b ≠ main_v2) : V3 m d ((Proc.tc : Proc τ).devRef b) = V2 m d ((Proc.tc : Proc τ).devRef b) :=
  StableHlo.reshape_result_ne _ _ _ _ _ _ _ h
theorem V4_v3 (d : Dev nD) : V4 m d v3' = looked (V3 m d v2') (V3 m d arg1') := Function.update_self _ _ _
theorem V4_ne (d : Dev nD) {b : DevRef τ sig} (h : b ≠ v3') : V4 m d b = V3 m d b := Function.update_of_ne h _ _
theorem V5_v4 (d : Dev nD) : V5 m d v4' = shapeCast S8x1024x512 (V4 m d v3') shapeCasts_S8192x512_S8x1024x512 := StableHlo.reshape_result _ _ _ _ _ _ _
theorem V5_ne (d : Dev nD) {b : Ref sig .tc} (h : b ≠ main_v4) : V5 m d ((Proc.tc : Proc τ).devRef b) = V4 m d ((Proc.tc : Proc τ).devRef b) :=
  StableHlo.reshape_result_ne _ _ _ _ _ _ _ h

/-- An array that no statement writes ends as it began. -/
theorem V5_kept (d : Dev nD) {b : Ref sig .tc} (h0 : b ≠ main_v0) (h1 : b ≠ main_v1) (h2 : b ≠ main_v2) (h3 : b ≠ main_v3) (h4 : b ≠ main_v4) :
    V5 m d ((Proc.tc : Proc τ).devRef b) = V0 m d ((Proc.tc : Proc τ).devRef b) := by
  rw [V5_ne m d h4, V4_ne m d (ne_of h3), V3_ne m d h2, V2_ne m d (ne_of h1), V1_ne m d h0]

/-- The result at the end. -/
theorem V5_result (d : Dev nD) : V5 m d v4' = result (V0 m d arg0') (V0 m d arg1') := by
  rw [V5_v4, V4_v3, V3_v2, V3_ne m d (b := main_arg1) (by decide), V2_v1, V2_ne m d (b := arg1') (ne_of (by decide)), V1_v0,
    V1_ne m d (b := main_arg1) (by decide)]
  rfl

/-! ## What the handshakes carry -/

/-- A tile's blocks of the matrix and its piece of the result, by SparseCore and subcore. -/
abbrev tileGiven (d : Dev nD) (c : Fin 2) (i : Fin 16) (Y : IVec S8192 32) : sProp 𝕄 := given d (coordsV c i) (V1 m d v0') Y

instance tileGiven_storable (d : Dev nD) (c : Fin 2) (i : Fin 16) (Y : IVec S8192 32) :
    BI.Storable (upEmb : UEmb _ 𝕄) (tileGiven m d c i Y) := by unfold tileGiven given; infer_instance

/-- The call takes, for each SparseCore, what its 16 tiles are given, and brings it back with the degrees written. -/
def P : (K (F := F)).Pay (nD := nD) (Val := Elt F) (Name := ℕ) (U := UU) where
  st := fun q d c => match q with | 0 => bigSep Finset.univ fun i : Fin 16 => tileGiven m d c i (V1 m d v1')
  dn := fun q d c => match q with | 0 => bigSep Finset.univ fun i : Fin 16 => tileGiven m d c i (degrees (V1 m d v0'))
  go := fun q d c i => match q with | 0 => tileGiven m d c i (V1 m d v1')
  td := fun q d c i => match q with | 0 => tileGiven m d c i (degrees (V1 m d v0'))
  x := fun _ _ => iprop(emp)

instance P_storable : (P (F := F) m).IsStorable where
  st q d c := match q with
    | 0 => (inferInstance : BI.Storable (upEmb : UEmb _ 𝕄) (bigSep Finset.univ fun i : Fin 16 => tileGiven m d c i (V1 m d v1')))
  dn q d c := match q with
    | 0 => (inferInstance : BI.Storable (upEmb : UEmb _ 𝕄) (bigSep Finset.univ fun i : Fin 16 => tileGiven m d c i (degrees (V1 m d v0'))))
  go q d c i := match q with | 0 => tileGiven_storable m d c i _
  td q d c i := match q with | 0 => tileGiven_storable m d c i _

/-! ## The tiles' obligation -/

theorem defs₀_vector (c : Fin τ.nSC) (s : Fin τ.nSub) :
    defs₀ (F := F) (.scVector c s) 0 ()
      = SparseCore.onTile hcore0 hsub0 (fun c s => cc0_degree (coordsV c s) inp (Memref.isWhole_whole _) out (Memref.isWhole_whole _)
          stgA (Memref.isWhole_whole _) stgB (Memref.isWhole_whole _) cnt (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (V1 m d v0') hF O W hO (V1 m d v1')).trans (wp_mono frame _ _ fun _ => obl_post)

theorem vecSplit : (K (F := F)).VecSplit' (P m) 0 := by
  intro d c
  show (bigSep Finset.univ fun i : Fin 16 => tileGiven m d c i (V1 m d v1')) ⊢ |={Set.univ}=> iprop(
      (bigSep Finset.univ fun i : Fin 16 => tileGiven m d c i (V1 m d v1'))
      ∗ ((bigSep Finset.univ fun i : Fin 16 => tileGiven m d c i (degrees (V1 m d v0')))
          -∗ (bigSep Finset.univ fun i : Fin 16 => tileGiven m d c i (degrees (V1 m d v0')))))
  iintro H; imodintro
  isplitl [H]; · iexact H
  iintro H; iexact H

/-! ## The launch element -/

/-- The TensorCore call's cells and duty tokens, on each device. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    isplitl [Hc]
    · iapply (Entails.of_eq (bigSep_congr fun (d : Dev nD) _ => bigSep_univ_of_subsingleton (Φ := fun p => Pipeline.cellsGhost (Pipeline.pin (pcfgs (F := F)) adm) EP p d) (0 : Fin 1))) $$ Hc
    · iapply (Entails.of_eq (bigSep_congr fun (d : Dev nD) _ => bigSep_univ_of_subsingleton (Φ := fun p => Pipeline.toksInit (Pipeline.pin (pcfgs (F := F)) adm) EP p d) (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp' Finset.univ]
  iempintro

/-! ## @main on the TensorCore -/

/-- The TensorCore's unscoped arrays. -/
def arrs : Finset (DevRef τ sig) := (StableHlo.tcRefs τ sig).filter fun b => ¬ b.isScoped

theorem unscoped_held (d : Dev nD) (W : Valuation τ sig (Elt F)) :
    (unscopedBufs d (fun b => W ((Proc.tc : Proc τ).devRef b)) : sProp 𝕄) = held (SparseCore.T d) arrs W := by
  unfold unscopedBufs StableHlo.held arrs StableHlo.tcRefs
  rw [Finset.filter_map, bigSep_map]; rfl

/-- The two arrays the SparseCore call works on. -/
abbrev pair : Finset (DevRef τ sig) := {v0', v1'}

theorem pair_sub : pair ⊆ arrs := by decide
theorem opA_sub : (opA (F := F)).bufs ⊆ arrs := show ({arg0', v0'} : Finset (DevRef τ sig)) ⊆ arrs by decide
theorem opB_sub : (opB (F := F)).bufs ⊆ arrs := show ({v1', v2'} : Finset (DevRef τ sig)) ⊆ arrs by decide
theorem opC_sub : (opC (F := F)).bufs ⊆ arrs := show ({v3', v4'} : Finset (DevRef τ sig)) ⊆ arrs by decide

theorem held_pair (d : Dev nD) (W : Valuation τ sig (Elt F)) :
    (held (SparseCore.T d) pair W : sProp 𝕄)
      = bigSep Finset.univ fun c : Fin 2 => bigSep Finset.univ fun i : Fin 16 => given d (coordsV c i) (W v0') (W v1') := by
  rw [← whole_given]
  unfold held pair
  rw [SparseCore.bigSep_insert' (by decide), bigSep_singleton]

theorem V2_rest (d : Dev nD) : (held (SparseCore.T d) (arrs \ pair) (V2 m d) : sProp 𝕄) = held (SparseCore.T d) (arrs \ pair) (V1 m d) :=
  held_congr _ fun b hb => V2_ne m d fun h => (Finset.mem_sdiff.mp hb).2 (by rw [h]; exact Finset.mem_insert_of_mem (Finset.mem_singleton_self _))

/-- What the SparseCore call takes, and what it brings back. -/
theorem st_eq (d : Dev nD) : (bigSep Finset.univ fun c : Fin ((K (F := F)).nCore 0) => (P m).st 0 d c) = held (SparseCore.T d) pair (V1 m d) :=
  (held_pair d (V1 m d)).symm
theorem dn_eq (d : Dev nD) : (bigSep Finset.univ fun c : Fin ((K (F := F)).nCore 0) => (P m).dn 0 d c) = held (SparseCore.T d) pair (V2 m d) := by
  rw [held_pair, V2_v1, V2_ne m d (b := v0') (ne_of (by decide))]; rfl

/-- @main's TensorCore call, as the lifted call of the lookup's pipeline. -/
theorem lookup_call : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

/-- What the TensorCore owes once the SparseCore call has returned. -/
theorem idle_eq (d : Dev nD) :
    (Lookup.Idle d : sProp 𝕄) = iprop(∃ W, ⌜(K (F := F)).WBelow (SparseCore.T d) W (8 * Blocks.fst 1 1 1)⌝ ∗ owes (SparseCore.T d) 0 W) := rfl

section
variable (V V' : (c : Dev nD) → (b : Ref sig .tc) → Buf (Elt F) ((c : Thread nD τ).loc b))
  (hout : ∀ c, V' c main_v3 = looked (V c main_v2) (V c main_arg1)) (hne : ∀ c b, b ≠ main_v3 → V' c b = V c b) (c : Dev nD)
theorem reg_pre : (reg V V' hout hne).pre c = iprop(unscopedBufs c (V c) ∗ Lookup.Idle c) := rfl
theorem reg_post : (reg V V' hout hne).post c = iprop(unscopedBufs c (V' c) ∗ Lookup.Idle c) := rfl
end

/-- The TensorCore call inside @main: the arrays before, the arrays after, the handshakes' state kept. -/
theorem region (κ : GSem nD τ sig → ℕ) (d : Dev nD) (Q : PUnit → sProp 𝕄) [∀ e, Nonempty (Elt F e)] :
    iprop((K (F := F)).ctx EH (P m) κ ∗ (K (F := F)).tcSt EH d 1 ∗ boundary (SparseCore.T d) ∗ held (SparseCore.T d) arrs (V3 m d) ∗ G d
        ∗ (((K (F := F)).tcSt EH d 1 ∗ boundary (SparseCore.T d) ∗ held (SparseCore.T d) arrs (V4 m d)) -∗ Q ⟨⟩))
      ⊢ wp frame (wpE ((K (F := F)).defs (D (F := F))) 𝒱 (SparseCore.T d) none) Set.univ
          (Prog.lift (.customCall (SparseCore.inner (Pipeline.entry 0)) ())) Q := by
  rw [lookup_call]
  unfold SparseCore.Cfg.tcSt G
  rw [(K (F := F)).Otc_end d (n := 1) le_rfl]
  have h := (Pipeline.RegionSeg.wp (pcfgs (F := F)) adm (pdats fun c b => V3 m c ((Proc.tc : Proc τ).devRef b)) (none : HIx 1) cellOf_inj EP defs₀ 𝒱₀
    (K (F := F)).L (K (F := F)).lev
    (reg (fun c b => V3 m c ((Proc.tc : Proc τ).devRef b)) (fun c b => V4 m c ((Proc.tc : Proc τ).devRef b)) (fun c => V4_v3 m c)
      (fun c b h => V4_ne m c (ne_of h))) d none (fun u hu => by cases hu) .ret Q)
  rw [reg_pre, reg_post, idle_eq] at h
  iintro ⟨#Hctx, ⟨Hidle, Hat⟩, Hb, Hheld, ⟨Hc, Ht⟩, HQ⟩
  iapply ((K (F := F)).wp_liftProg (D (F := F)) 𝒱 (SparseCore.T d) Set.univ none (.op (.customCall (Pipeline.entry 0) ()) .ret) Q)
  iapply h $$ [Hidle Hat Hb Hheld Hc Ht HQ]
  isplitl [HQ Hat]
  · iintro ⟨Hb, Hub, Hidle⟩
    rw [wp_ret]; imodintro
    iapply HQ
    isplitl [Hidle Hat]
    · isplitl [Hidle]; · iexact Hidle
      iexact Hat
    isplitl [Hb]; · iexact Hb
    iapply (Entails.of_eq (unscoped_held (F := F) d (V4 m d))) $$ Hub
  isplitl [Hb]; · iexact Hb
  isplitl [Hheld Hidle]
  · isplitl [Hheld]
    · iapply (Entails.of_eq (unscoped_held (F := F) d (V3 m d)).symm) $$ Hheld
    · iexact Hidle
  isplitr
  · iapply ((K (F := F)).ctx_levAts κ) $$ Hctx
  isplitl [Hc] <;> iassumption

/-- What @main leaves: the unscoped arrays at their last contents. -/
abbrev FIN (d : Dev nD) : sProp 𝕄 := held (SparseCore.T d) arrs (V5 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrs (V0 m d) from unscoped_held d (V0 m d)]
  simp only [main, wp_bind, wp_pure]
  iintro ⟨#Hctx, Hst, ⟨Hb, Hheld, Hts, -⟩, HG⟩
  -- the distances as a matrix
  iapply (wp_hlo_within 𝒱 (SparseCore.T d) none Set.univ (op := opA) (S := arrs) opA_sub (V := V0 m d)) $$ [Hb Hheld]
  · isplitl [Hb] <;> iassumption
  iintro ⟨Hb, Hheld⟩
  rw [wp_ret]; imodintro
  -- the SparseCore call: the matrix and the degrees' array to the tiles and back
  ihave Hh := (Entails.of_eq (show (held (SparseCore.T d) arrs (opA.result (V0 m d)) : sProp 𝕄) = _ from held_sub_split (SparseCore.T d) pair_sub (V1 m d))) $$ Hheld
  icases Hh with ⟨Hp, Hrest⟩
  iapply ((K (F := F)).wp_run (D (F := F)) 𝒱 (EH := EH) (P := P m) κ d 0) $$ [Hst Hp Hrest Hb Hts HG]
  isplitr; · iexact Hctx
  isplitl [Hst]; · iexact Hst
  isplitl [Hp]
  · iapply (Entails.of_eq (st_eq m d).symm) $$ Hp
  iintro ⟨Hst, Hdn⟩
  ihave Hp := (Entails.of_eq (dn_eq m d)) $$ Hdn
  ihave Hrest := (Entails.of_eq (V2_rest m d).symm) $$ Hrest
  ihave Hheld := (Entails.of_eq (held_sub_split (SparseCore.T d) pair_sub (V2 m d)).symm) $$ [Hp Hrest]
  · isplitl [Hp] <;> iassumption
  -- the degrees as two blocks of indices
  iapply (wp_hlo_within 𝒱 (SparseCore.T d) none Set.univ (op := opB) (S := arrs) opB_sub (V := V2 m d)) $$ [Hb Hheld]
  · isplitl [Hb] <;> iassumption
  iintro ⟨Hb, Hheld⟩
  rw [wp_ret]; imodintro
  -- the TensorCore call
  iapply (region m κ d) $$ [Hst Hb Hheld HG Hts]
  isplitr; · iexact Hctx
  isplitl [Hst]; · iexact Hst
  isplitl [Hb]; · iexact Hb
  isplitl [Hheld]; · iexact Hheld
  isplitl [HG]; · iexact HG
  iintro ⟨Hst, Hb, Hheld⟩
  -- the result's shape
  iapply (wp_hlo_within 𝒱 (SparseCore.T d) none Set.univ (op := opC) (S := arrs) opC_sub (V := V4 m d)) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-! ## The final state -/

/-- The final memory has the last contents of the three arrays the claims speak of. -/
def fq (d : Dev nD) (s' : Phys nD τ sig (Elt F)) : Prop :=
  s'.mem.mem (d, v4') = V5 m d v4' ∧ s'.mem.mem (d, arg0') = V5 m d arg0' ∧ s'.mem.mem (d, arg1') = V5 m d arg1'

/-- A held array's contents are those of the final memory. -/
theorem held_read (d : Dev nD) (s' : Phys nD τ sig (Elt F)) {b : DevRef τ sig} (hb : b ∈ arrs) :
    iprop(FIN m d ∗ SI s') ⊢ (⌜s'.mem.mem (d, b) = V5 m d b⌝ : sProp 𝕄) := by
  unfold FIN
  rw [held_sub_split (SparseCore.T d) (Finset.singleton_subset_iff.mpr hb)]
  unfold held
  rw [bigSep_singleton]
  iintro ⟨⟨Hx, -⟩, HSI⟩
  ihave H := (SI_pointsTo_agree (st := s') (ℓ := (d, b)) (I := Finset.univ) (q := fullShare) (f := V5 m d b)) $$ [HSI Hx]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro H
  ihave H := (persistent_entails_right (held_read m d s' (b := v4') (by decide))) $$ H
  icases H with ⟨%h4, H⟩
  ihave H := (persistent_entails_right (held_read m d s' (b := arg0') (by decide))) $$ H
  icases H with ⟨%h0, H⟩
  ihave H := (held_read m d s' (b := arg1') (by decide)) $$ H
  icases H with %h1
  ipureintro; exact ⟨h4, h0, h1⟩

/-- What the run leaves: the result, the arguments as they were, every semaphore at zero. -/
def QC : PUnit × MemSt nD τ sig (Elt F) → Prop := fun r =>
  (∀ c : Dev nD, r.2.mem (c, v4') = result (m (c, arg0')) (m (c, arg1')) ∧ r.2.mem (c, arg0') = m (c, arg0') ∧ r.2.mem (c, arg1') = m (c, arg1'))
    ∧ r.2.sem = fun _ => 0

/-- The program's run, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun _ h hz => ⟨fun c => ⟨(h c).1.trans (V5_result m c),
      (h c).2.1.trans (V5_kept m c (by decide) (by decide) (by decide) (by decide) (by decide)),
      (h c).2.2.trans (V5_kept m c (by decide) (by decide) (by decide) (by decide) (by decide))⟩, hz⟩)

end Cert.Proof.Launch
-- ==== Proof.Frames.lean ====
/-
  The frames: each program runs to its end without a fault, its arguments as they were and every semaphore at zero. The kernel's
  own program and its idealization have one run, taken over any float values.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.Pre_countable
public import proofs.«01_k».proof.Proof.Gen.ReferenceIdeal.Run

@[expose] public section

noncomputable section

namespace Cert.Proof.Frames

open Idealize.ShloMosaic Idealize.SL.Sem

/-- The kernel's program and its idealization have the same bodies, label by label. -/
theorem defs₀_eq : Cert.Kernel.defs₀ (F := Bits) = Cert.KernelIdeal.defs₀ (F := Bits) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

theorem defs_eq : Cert.Kernel.defs (F := Bits) = Cert.KernelIdeal.defs (F := Bits) :=
  congrArg (fun d => (Cert.KernelIdeal.sc (F := Bits)).defs (Pipeline.defs (Cert.KernelIdeal.pcfgs (F := Bits)) d)) defs₀_eq

theorem run_eq (s : MemSt Cert.KernelIdeal.nD Cert.KernelIdeal.τ Cert.KernelIdeal.sig (Elt Bits)) :
    θ_run (Cert.Kernel.defs (F := Bits)) Cert.Kernel.threads s = θ_run (Cert.KernelIdeal.defs (F := Bits)) Cert.KernelIdeal.threads s :=
  congrArg (fun d => θ_run d (Cert.KernelIdeal.threads (F := Bits)) s) defs_eq

/-- The run keeps the arguments and ends with every semaphore at zero, over any float values. -/
theorem kept {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) Cert.KernelIdeal.threads ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Launch.run_main (F := F) m ρ)

/-- The kernel's frame, in its bit patterns. -/
theorem kernel : Cert.quiescent_Kernel := by
  intro m ρ _
  have h := kept (F := Bits) m ρ
  rw [← run_eq] at h
  exact h

/-- The idealization's frame. -/
theorem ideal : Cert.quiescent_KernelIdeal := fun m ρ _ => kept (F := Ideal) m ρ

/-- The reference's frame: it has no semaphore at all. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Meant.lean ====
/-
  What the problem asks for, as a function of the two arguments: entry `(b, r, d)` of the result is the table's entry in
  column `d` of the row numbered by how many ones row `(b, r)` of the distances holds, the number held at 511.
-/
module

public import proofs.«01_k».proof.Proof.Launch
public import Idealize.ShloMosaic.Lib.ValueIdx

@[expose] public section

noncomputable section

namespace Cert.Proof.Meant

open Cert.KernelIdeal
open Idealize.ShloMosaic Idealize.ShloMosaic.ValueIdx

/-- How many ones row `(b, r)` of the distances holds. -/
def count (D : IVec S8x1024x1024 32) (b : Fin 8) (r : Fin 1024) : ℕ := ∑ c : Fin 1024, if D (ix3 b r c) = 1#32 then 1 else 0

theorem count_le (D : IVec S8x1024x1024 32) (b : Fin 8) (r : Fin 1024) : count D b r ≤ 1024 := by
  have h : count D b r ≤ ∑ _c : Fin 1024, 1 := Finset.sum_le_sum fun c _ => by split_ifs <;> omega
  simpa using h

/-- The number of the table's row that the count names. -/
def pick (n : ℕ) : Fin 512 := ⟨min n 511, by omega⟩

/-- The result. -/
def meant (D : IVec S8x1024x1024 32) (tab : FVec Ideal S512x512 .f32) : FVec Ideal S8x1024x512 .f32 :=
  fun y => tab (ix2 (pick (count D (y 0) (y 1))) (y 2))

end Cert.Proof.Meant

end
-- ==== Proof.KernelValue.lean ====
/-
  The kernel's result over the extended reals. A one-hot row times the table is the row of the table it names, since the
  products with its zeros are zero and the product with its one is the table's entry; and the arrays' changes of shape keep
  every element's position. So the result is the one meant.
-/
module

public import proofs.«01_k».proof.Proof.Meant
public import Idealize.ShloMosaic.Lib.MatmulPlain
public import Idealize.ShloMosaic.Lib.Pipeline.Value

@[expose] public section

noncomputable section

namespace Cert.Proof.KernelValue

open Cert.KernelIdeal Cert.KernelIdeal.Gen Cert.Proof.Tally Cert.Proof.Lookup Cert.Proof.Launch Cert.Proof.Meant
open Cert.Proof.Tile (atX rowX degrees)
open Idealize.ShloMosaic Idealize.ShloMosaic.ValueIdx

/-! ## One block's lookup -/

/-- The column of 4096 indices that the one-hot rows are compared with. -/
theorem column_apply (X : IVec S1x1x4096 32) (r : Fin 4096) (k : Fin 512) :
    broadcastTo S4096x512 (shapeCast S4096x1 (shapeCast S1x1x4096 X shapeCasts_S1x1x4096_S1x1x4096) shapeCasts_S1x1x4096_S4096x1)
      broadcasts_S4096x1_S4096x512 (ix2 r k) = X (ix3 0 0 r) := by
  rw [broadcastTo_apply _ _ (ix2 r k) (ix2 r 0)]
  · rw [shapeCast_apply _ _ (ix2 r 0) (ix3 0 0 r)]
    · rw [shapeCast_self]
    · rw [Shape.rowMajor_val_three, Shape.rowMajor_val_two]; simp
  · intro a
    match a with
    | ⟨0, _⟩ => rfl
    | ⟨1, _⟩ => rfl

/-- A one-hot row has its one where its index says, and zeros elsewhere. -/
theorem onehot_apply (X : IVec S1x1x4096 32) (r : Fin 4096) (k : Fin 512) (n : Fin 512) (hn : X (ix3 0 0 r) = BitVec.ofNat 32 n.val) :
    onehot (F := Ideal) X (ix2 r k) = if k = n then 1 else 0 := by
  have e : onehot (F := Ideal) X (ix2 r k)
      = ((((IntOp.cmpi .eq (BitVec.ofNat 32 k.val) (BitVec.ofNat 32 n.val)).setWidth 32).toInt : ℝ) : EReal) := by
    rw [← hn, ← column_apply X r k]
    show ((((IntOp.cmpi .eq (iota .tc S4096x512 32 [1] iota_S4096x512_d1_w32 (ix2 r k)) _).setWidth 32).toInt : ℝ) : EReal) = _
    congr 6
    show BitVec.ofNat 32 (0 * 512 + k.val) = _
    rw [Nat.zero_mul, Nat.zero_add]
  rw [e]
  have hk := k.isLt
  have hl := n.isLt
  by_cases h : k = n
  · subst h
    rw [if_pos rfl, show IntOp.cmpi .eq (BitVec.ofNat 32 k.val) (BitVec.ofNat 32 k.val) = 1#1 from by
      show BitVec.ofBool (_ == _) = _; rw [beq_self_eq_true]; rfl]
    norm_num
  · rw [if_neg h, show IntOp.cmpi .eq (BitVec.ofNat 32 k.val) (BitVec.ofNat 32 n.val) = 0#1 from by
      show BitVec.ofBool (_ == _) = _
      rw [beq_eq_false_iff_ne.mpr]; · rfl
      intro e
      have e' := congrArg BitVec.toNat e
      simp only [BitVec.toNat_ofNat] at e'
      exact h (Fin.ext (by omega))]
    norm_num

/-- The lookup's row is the table's row that the index names. -/
theorem lookup_apply (X : IVec S1x1x4096 32) (tab : FVec Ideal S512x512 .f32) (r : Fin 4096) (d n : Fin 512)
    (hn : X (ix3 0 0 r) = BitVec.ofNat 32 n.val) : lookup (F := Ideal) X tab (ix2 r d) = tab (ix2 n d) := by
  refine (Ideal.matmul_plain_apply none (onehot X) tab (constant S4096x512 .f32 0x00000000#32) r d).trans ?_
  have hs : (∑ k : Fin 512, onehot (F := Ideal) X (ix2 r k) * tab (ix2 k d)) = tab (ix2 n d) := by
    rw [Finset.sum_eq_single n]
    · rw [onehot_apply X r n n hn, if_pos rfl, one_mul]
    · intro k _ hk
      rw [onehot_apply X r k n hn, if_neg hk, zero_mul]
    · exact fun h => absurd (Finset.mem_univ _) h
  rw [hs]
  show Ideal.ofBits .f32 0x00000000#32 + _ = _
  rw [show Ideal.ofBits .f32 0x00000000#32 = (0 : EReal) from by simp [Ideal.ofBits_def], zero_add]

/-! ## The whole result -/

/-- Row `(b, r)`'s number among the 8192 rows. -/
def flat (b : Fin 8) (r : Fin 1024) : Fin 8192 := ⟨1024 * b.val + r.val, by omega⟩

/-- The degree of a row is the number of its ones, held at 511. -/
theorem degrees_flat (D : IVec S8x1024x1024 32) (b : Fin 8) (r : Fin 1024) :
    degrees (matrix D) (ix1 (flat b r)) = BitVec.ofNat 32 (pick (count D b r)).val := by
  have e : rowX (matrix D) (flat b r) = fun c => D (ix3 b r c) := by
    funext c
    refine shapeCast_apply D _ (atX (flat b r) c) (ix3 b r c) ?_
    rw [Shape.rowMajor_val_three, Shape.rowMajor_val_two]
    show (b.val * 1024 + r.val) * 1024 + c.val = (1024 * b.val + r.val) * 1024 + c.val
    omega
  show BitVec.ofNat 32 (min (ones (rowX (matrix D) (flat b r)) 1024) 511) = _
  rw [e, ones_eq]
  rfl

/-- The kernel's result is the one meant. -/
theorem result_eq (D : IVec S8x1024x1024 32) (tab : FVec Ideal S512x512 .f32) : result (F := Ideal) D tab = meant D tab := by
  funext y
  have hb : (y 0).val < 8 := (y 0).isLt
  have hr : (y 1).val < 1024 := (y 1).isLt
  obtain ⟨n, hnv⟩ : ∃ n : Fin 8192, n = flat (y 0) (y 1) := ⟨_, rfl⟩
  have e1 : result (F := Ideal) D tab y
      = looked (shapeCast S2x1x4096 (degrees (matrix D)) shapeCasts_S8192_S2x1x4096) tab (ix2 n (y 2)) := by
    refine shapeCast_apply _ _ y (ix2 n (y 2)) ?_
    rw [Shape.rowMajor_val_three, Shape.rowMajor_val_two, hnv]
    show (1024 * (y 0).val + (y 1).val) * 512 + (y 2).val = ((y 0).val * 1024 + (y 1).val) * 512 + (y 2).val
    omega
  rw [e1]
  have e2 : at42 (inBlk n) (y 2) = ix2 (inBlk n) (y 2) := by
    funext a
    match a with
    | ⟨0, _⟩ => rfl
    | ⟨1, _⟩ => rfl
  show lookup (idxBlock (shapeCast S2x1x4096 (degrees (matrix D)) shapeCasts_S8192_S2x1x4096) (blkOf n)) tab (at42 (inBlk n) (y 2)) = _
  rw [e2]
  refine lookup_apply _ tab (inBlk n) (y 2) (pick (count D (y 0) (y 1))) ?_
  refine Eq.trans ?_ ((congrArg (fun k => degrees (matrix D) (ix1 k)) hnv).trans (degrees_flat D (y 0) (y 1)))
  refine shapeCast_apply _ _ _ (ix1 n) ?_
  rw [Shape.rowMajor_val_three, Shape.rowMajor_val_one]
  show n.val = (n.val / 4096 * 1 + 0) * 4096 + n.val % 4096
  omega

end Cert.Proof.KernelValue

end
-- ==== Proof.ReferenceValue.lean ====
/-
  The reference's result over the extended reals, where no distance is minus one and no row holds 512 ones or more. Then a
  distance's absolute value is one exactly where the distance is, the sum of the indicators is the number of ones, which is
  below 2 ^ 31 and so its own integer part, and the row it names lies inside the table, so that nothing is filled in.
-/
module

public import proofs.«01_k».proof.Proof.Meant
public import proofs.«01_k».proof.Proof.Gen.ReferenceIdeal
public import proofs.«01_k».proof.Proof.Gen.ReferenceIdeal.Run
public import proofs.«01_k».proof.Proof.Gen.Pre_countable
public import Idealize.ShloMosaic.Lib.IdealHost
public import Idealize.ShloMosaic.Lib.Pipeline.Value
public import Idealize.ShloMosaic.Lib.ReduceAll
public import Idealize.ShloMosaic.Lib.IndicatorCount
public import Idealize.ShloMosaic.Lib.Pointwise.Reduce

@[expose] public section

noncomputable section

namespace Cert.Proof.ReferenceValue

open Cert.ReferenceIdeal Cert.ReferenceIdeal.Gen Cert.Proof.Meant
open Idealize.ShloMosaic hiding ix0 ix1 ix2 ix3 eq_ix3
open Idealize.ShloMosaic.ValueIdx

/-! ## Words -/

/-- Only one and minus one have the absolute value one. -/
theorem abs_one (v : BitVec 32) (h : v ≠ 4294967295#32) : IntOp.cmpi .eq (IntOp.absi v) 1#32 = BitVec.ofBool (decide (v = 1#32)) := by
  show BitVec.ofBool (IntOp.absi v == 1#32) = _
  congr 1
  rw [Bool.eq_iff_iff, beq_iff_eq, decide_eq_true_iff]
  unfold IntOp.absi
  constructor
  · intro e
    split_ifs at e with hv
    · exact absurd (by rw [← BitVec.neg_neg (x := v), e]; decide) h
    · exact e
  · rintro rfl; decide

/-- A small number's word, read signed, is the number. -/
theorem toInt_small (n : ℕ) (h : n ≤ 1024) : (BitVec.ofNat 32 n).toInt = n := by
  rw [BitVec.toInt_eq_toNat_of_lt] <;> simp only [BitVec.toNat_ofNat] <;> omega

/-- A small natural number's integer part is its word. -/
theorem fptosi_nat (n : ℕ) (h : n ≤ 1024) : Ideal.fptosi 32 (((n : ℝ)) : EReal) = BitVec.ofNat 32 n := by
  have e : Ideal.toIntClamped (-(2 ^ (32 - 1) : Nat)) ((2 ^ (32 - 1) : Nat) - 1) (((n : ℝ)) : EReal) = (n : ℤ) := by
    rw [Ideal.toIntClamped_coe, if_pos (Nat.cast_nonneg n), Int.floor_natCast]
    norm_num
    omega
  unfold Ideal.fptosi
  rw [e, BitVec.ofInt_natCast]

/-! ## The count -/

/-- The reference's sum of a row's indicators, as an integer. -/
def counts (D : IVec S8x1024x1024 32) : IVec S8x1024 32 :=
  fptosi 32 (Host.reduceAdd (uitofp .f32 (cmpi .eq (absi D) (broadcastInDim S8x1024x1024 ![] bcast_S_S8x1024x1024 (constantI S_ 32 1#32))))
    (constant S_ .f32 0x00000000#32) reducesTo_S8x1024x1024_S8x1024_d2 h_S_ : FVec Ideal S8x1024 .f32)

theorem counts_apply (D : IVec S8x1024x1024 32) (hD : ∀ i, D i ≠ 4294967295#32) (b : Fin 8) (r : Fin 1024) :
    counts D (ix2 b r) = BitVec.ofNat 32 (count D b r) := by
  have e : Ideal.hostReduceAdd reducesTo_S8x1024x1024_S8x1024_d2
      (uitofp .f32 (cmpi .eq (absi D) (broadcastInDim S8x1024x1024 ![] bcast_S_S8x1024x1024 (constantI S_ 32 1#32))) : FVec Ideal S8x1024x1024 .f32)
      (Ideal.ofBits .f32 0x00000000#32) (ix2 b r) = (((count D b r : ℕ) : ℝ) : EReal) := by
    rw [Ideal.hostReduceAdd_r3_a2]
    rw [show Ideal.ofBits .f32 0x00000000#32 = (0 : EReal) from by simp [Ideal.ofBits_def], zero_add]
    have hsum : (((count D b r : ℕ) : ℝ) : EReal) = ∑ c : Fin 1024, if D (ix3 b r c) = 1#32 then (1 : EReal) else 0 := by
      unfold Meant.count
      simp
    rw [hsum]
    refine Finset.sum_congr rfl fun c _ => ?_
    show (((IntOp.cmpi .eq (IntOp.absi (D (ix3 b r c))) 1#32).toNat : ℝ) : EReal) = _
    rw [abs_one _ (hD _)]
    by_cases h : D (ix3 b r c) = 1#32
    · rw [if_pos h, decide_eq_true h]; simp
    · rw [if_neg h, decide_eq_false h]; norm_num
  show Ideal.fptosi 32 (Ideal.hostReduceAdd reducesTo_S8x1024x1024_S8x1024_d2 _ _ (ix2 b r)) = _
  rw [← fptosi_nat _ (count_le D b r), ← e]
  rfl

/-! ## The lookup -/

/-- The row numbers as the lookup takes them: a negative one counts from the table's end. -/
def wrapped (i : IVec S8x1024 32) : IVec S8x1024x1 32 :=
  broadcastInDim S8x1024x1 ![0, 1] bcast_S8x1024_S8x1024x1_0_1
    (select (cmpi .slt i (broadcastInDim S8x1024 ![] bcast_S_S8x1024 (constantI S_ 32 0#32)))
      (addi i (broadcastInDim S8x1024 ![] bcast_S_S8x1024 (constantI S_ 32 512#32))) i)

theorem wrapped_apply (i : IVec S8x1024 32) (b : Fin 8) (r : Fin 1024) (z : Fin 1) (n : ℕ) (hn : n ≤ 1024) (h : i (ix2 b r) = BitVec.ofNat 32 n) :
    wrapped i (ix3 b r z) = BitVec.ofNat 32 n := by
  have e : wrapped i (ix3 b r z)
      = Scalar.select (IntOp.cmpi .slt (i (ix2 b r)) 0#32) (i (ix2 b r) + 512#32) (i (ix2 b r)) := by
    unfold wrapped
    refine broadcastInDim_apply _ _ _ (ix3 b r z) (ix2 b r) ?_
    intro a
    match a with
    | ⟨0, _⟩ => rfl
    | ⟨1, _⟩ => rfl
  have hz : IntOp.cmpi .slt (BitVec.ofNat 32 n) 0#32 = 0#1 := by
    refine eq_zero_of_ne_one fun h' => ?_
    have := IntOp.cmpi_slt.mp h'
    rw [toInt_small n hn] at this
    exact absurd this (by simp)
  rw [e, h, hz, select_zero]

/-- The row of the table that a row number inside it names. -/
theorem gather_apply (tab : FVec Ideal S512x512 .f32) (I : IVec S8x1024x1 32) (b : Fin 8) (r : Fin 1024) (d n : Fin 512)
    (h : I (ix3 b r 0) = BitVec.ofNat 32 n.val) :
    Host.gather gather_S512x512_S8x1024x1_S8x1024x512_2_0_n_n_0_2_1512 tab I (ix3 b r d) = tab (ix2 n d) := by
  unfold Host.gather
  refine congrArg tab (funext fun a => Fin.ext ?_)
  match a with
  | ⟨0, _⟩ =>
    show GatherDims.start _ (ix3 b r d) I 0 + GatherDims.batchCoord _ (ix3 b r d) 0 + GatherDims.offCoord _ (ix3 b r d) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x512_S8x1024x1_S8x1024x512_2_0_n_n_0_2_1512.startIndexMap from List.mem_singleton.mpr rfl)]
    have hsi : gather_S512x512_S8x1024x1_S8x1024x512_2_0_n_n_0_2_1512.siIdx (ix3 b r d)
        ⟨List.idxOf (0 : Fin 2) gather_S512x512_S8x1024x1_S8x1024x512_2_0_n_n_0_2_1512.startIndexMap,
          List.idxOf_lt_length_iff.2 (List.mem_singleton.mpr rfl)⟩ = ix3 b r 0 := by
      funext k; refine Fin.ext ?_
      match k with
      | ⟨0, _⟩ => rfl
      | ⟨1, _⟩ => rfl
      | ⟨2, _⟩ => rfl
    rw [hsi, h]
    have hl := n.isLt
    rw [toInt_small n.val (by omega)]
    show min ((n.val : Int)).toNat (512 - 1) = n.val
    omega
  | ⟨1, _⟩ =>
    show GatherDims.start _ (ix3 b r d) I 1 + GatherDims.batchCoord _ (ix3 b r d) 1 + GatherDims.offCoord _ (ix3 b r d) 1 = d.val
    rw [GatherDims.batchCoord_eq_zero _ _ _ List.not_mem_nil]
    unfold GatherDims.start
    rw [dif_neg (show (1 : Fin 2) ∉ gather_S512x512_S8x1024x1_S8x1024x512_2_0_n_n_0_2_1512.startIndexMap from by
      show (1 : Fin 2) ∉ [(0 : Fin 2)]; decide), Nat.add_zero, Nat.zero_add]
    rfl

/-- The lookup as the reference writes it: the table's row where the row number lies inside the table, elsewhere the filling. -/
def filled (I : IVec S8x1024x1 32) (tab : FVec Ideal S512x512 .f32) : FVec Ideal S8x1024x512 .f32 :=
  select (broadcastInDim S8x1024x512 ![0, 1] bcast_S8x1024_S8x1024x512_0_1
      (Host.reduce IntOp.andi (andi (cmpi .sge I (broadcastInDim S8x1024x1 ![] bcast_S_S8x1024x1 (constantI S_ 32 0#32)))
        (cmpi .sle I (broadcastInDim S8x1024x1 ![0, 1, 2] bcast_S1x1x1_S8x1024x1_0_1_2 (broadcastInDim S1x1x1 ![2] bcast_S1_S1x1x1_2 (constantI S1 32 511#32)))))
        (constantI S_ 1 1#1) reducesTo_S8x1024x1_S8x1024_d2 h_S_))
    (Host.gather gather_S512x512_S8x1024x1_S8x1024x512_2_0_n_n_0_2_1512 tab I)
    (broadcastInDim S8x1024x512 ![] bcast_S_S8x1024x512 (constant S_ .f32 0x7FC00000#32))

/-- Where every row number lies inside the table, nothing is filled. -/
theorem filled_apply (I : IVec S8x1024x1 32) (tab : FVec Ideal S512x512 .f32) (n : Fin 8 → Fin 1024 → Fin 512)
    (h : ∀ b r z, I (ix3 b r z) = BitVec.ofNat 32 (n b r).val) (b : Fin 8) (r : Fin 1024) (d : Fin 512) :
    filled I tab (ix3 b r d) = tab (ix2 (n b r) d) := by
  unfold filled
  rw [select_apply, gather_apply tab I b r d (n b r) (h b r 0)]
  have e : ∀ j, Host.reduce IntOp.andi (andi (cmpi .sge I (broadcastInDim S8x1024x1 ![] bcast_S_S8x1024x1 (constantI S_ 32 0#32)))
        (cmpi .sle I (broadcastInDim S8x1024x1 ![0, 1, 2] bcast_S1x1x1_S8x1024x1_0_1_2 (broadcastInDim S1x1x1 ![2] bcast_S1_S1x1x1_2 (constantI S1 32 511#32)))))
        (constantI S_ 1 1#1) reducesTo_S8x1024x1_S8x1024_d2 h_S_ j = 1#1 := by
    intro j
    refine Host.reduce_andi_one _ _ _ _ _ rfl fun i => ?_
    have hl := (n (i 0) (i 1)).isLt
    have hi : I i = BitVec.ofNat 32 (n (i 0) (i 1)).val := (congrArg I (eq_ix3 i)).trans (h (i 0) (i 1) (i 2))
    have ht := toInt_small (n (i 0) (i 1)).val (by omega)
    refine IntOp.andi_eq_one.2 ⟨IntOp.cmpi_sge.2 ?_, IntOp.cmpi_sle.2 ?_⟩
    · rw [hi, ht]
      exact Int.natCast_nonneg _
    · rw [hi, ht]
      show _ ≤ (511 : Int)
      omega
  have e' : broadcastInDim S8x1024x512 ![0, 1] bcast_S8x1024_S8x1024x512_0_1
      (Host.reduce IntOp.andi (andi (cmpi .sge I (broadcastInDim S8x1024x1 ![] bcast_S_S8x1024x1 (constantI S_ 32 0#32)))
        (cmpi .sle I (broadcastInDim S8x1024x1 ![0, 1, 2] bcast_S1x1x1_S8x1024x1_0_1_2 (broadcastInDim S1x1x1 ![2] bcast_S1_S1x1x1_2 (constantI S1 32 511#32)))))
        (constantI S_ 1 1#1) reducesTo_S8x1024x1_S8x1024_d2 h_S_) (ix3 b r d) = 1#1 := by
    unfold broadcastInDim
    exact e _
  rw [e', select_one]

/-- The reference's result is the one meant, where no distance is minus one and every row holds fewer than 512 ones. -/
theorem reference_eq (D : IVec S8x1024x1024 32) (tab : FVec Ideal S512x512 .f32) (hD : ∀ i, D i ≠ 4294967295#32)
    (hc : ∀ b r, count D b r < 512) : filled (wrapped (counts D)) tab = meant D tab := by
  funext y
  rw [eq_ix3 y]
  refine filled_apply _ tab (fun b r => pick (count D b r)) ?_ (y 0) (y 1) (y 2)
  intro b r z
  have h := hc b r
  rw [wrapped_apply _ b r z _ (count_le D b r) (counts_apply D hD b r)]
  show _ = BitVec.ofNat 32 (min (count D b r) 511)
  rw [Nat.min_eq_left (by omega)]

/-! ## The precondition -/

/-- A row's number of ones as the precondition counts it, in words. -/
def total (D : IVec S8x1024x1024 32) : IVec S8x1024 32 :=
  Host.reduce IntOp.addi (extui 32 (cmpi .eq D (broadcastInDim S8x1024x1024 ![] bcast_S_S8x1024x1024 (constantI S_ 32 1#32)))
    Cert.Pre_countable.Gen.natLt_1_32) (constantI S_ 32 0#32) reducesTo_S8x1024x1024_S8x1024_d2 h_S_

theorem total_apply (D : IVec S8x1024x1024 32) (b : Fin 8) (r : Fin 1024) : total D (ix2 b r) = BitVec.ofNat 32 (count D b r) := by
  have e : total D (ix2 b r) = (Finset.univ : Finset (Fin 1024)).fold IntOp.addi 0#32 fun c => (IntOp.cmpi .eq (D (ix3 b r c)) 1#32).setWidth 32 := by
    unfold total
    rw [Host.reduce_eq_fold, Shape.ReducesTo.fold_fiber_r3_a2]
    exact Finset.fold_congr fun c _ => rfl
  rw [e, IndicatorCount.fold_addi_setWidth_eq_card, Finset.card_filter]
  unfold Meant.count
  refine congrArg (BitVec.ofNat 32) (Finset.sum_congr rfl fun c _ => ?_)
  by_cases h : D (ix3 b r c) = 1#32
  · rw [if_pos h, h]; rfl
  · rw [if_neg h, if_neg fun h' => h ?_]
    have h1 : BitVec.ofBool (D (ix3 b r c) == 1#32) = 1#1 := h'
    by_contra hne
    rw [beq_eq_false_iff_ne.mpr hne] at h1
    exact absurd h1 (by decide)

/-- The precondition read back: no distance is minus one, and every row holds fewer than 512 ones. -/
theorem countable (D : IVec S8x1024x1024 32) (tab : FVec Ideal S512x512 .f32) (h : Cert.Pre_countable.fn (F := Ideal) D tab = fun _ => 1#1) :
    (∀ i, D i ≠ 4294967295#32) ∧ ∀ b r, count D b r < 512 := by
  have h0 := congrFun h ix0
  obtain ⟨h1, h2⟩ := IntOp.andi_eq_one.1 h0
  haveI : Subsingleton Cert.Pre_countable.S_.Idx := ⟨fun a b => funext fun k => k.elim0⟩
  refine ⟨fun i e => ?_, fun b r => ?_⟩
  · have hi := Host.reduce_andi_all _ _ _ _ _ h1 i
    change BitVec.ofBool (D i != 4294967295#32) = 1#1 at hi
    rw [e] at hi
    exact absurd hi (by decide)
  · have hi : IntOp.cmpi .slt (total D (ix2 b r)) 512#32 = 1#1 := Host.reduce_andi_all _ _ _ _ _ h2 (ix2 b r)
    have hlt := IntOp.cmpi_slt.1 hi
    rw [total_apply, toInt_small _ (count_le D b r)] at hlt
    have h5 : (512#32 : BitVec 32).toInt = 512 := by decide
    omega

end Cert.Proof.ReferenceValue

end
-- ==== Proof.Values.lean ====
/-
  The equality of the two results over the extended reals: each is the result meant, of the same arguments.
-/
module

public import proofs.«01_k».proof.Proof.KernelValue
public import proofs.«01_k».proof.Proof.ReferenceValue
public import proofs.«01_k».proof.Proof.Frames

@[expose] public section

noncomputable section

namespace Cert.Proof.Values

open Idealize.ShloMosaic Idealize.SL.Sem

/-- Where no distance is minus one and every row holds fewer than 512 ones, the kernel and the reference end with equal results. -/
theorem equal : Cert.algebraic_KernelIdeal_ReferenceIdeal_pre_countable := by
  intro m g m' g' hp ha
  refine ⟨fun c => Meant.meant
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Launch.run_main (F := Ideal) m g)
    exact ⟨(h.1 c).1.trans (KernelValue.result_eq _ _), (h.1 c).2⟩
  · refine (θ_run Cert.ReferenceIdeal.defs _ _).mono (fun r h c => ?_) (Cert.ReferenceIdeal.Value.run (F := Ideal) m' g')
    obtain ⟨hv, h0, h1⟩ := h c
    refine ⟨hv.trans ?_, h0, h1⟩
    obtain ⟨a0, a1⟩ := ha c
    obtain ⟨hD, hc⟩ := ReferenceValue.countable _ _ (hp c)
    have e := ReferenceValue.reference_eq _ (m ((c.tc : Thread Cert.KernelIdeal.nD Cert.KernelIdeal.τ).loc Cert.KernelIdeal.main_arg1)) hD hc
    rw [a0, a1]
    exact e

end Cert.Proof.Values

end
-- ==== Proof.lean ====
/-
  `Cert.Claim`: the three frames, the idealization's account of itself, and the equality of the kernel's result and the reference's
  over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_countable
public import proofs.«01_k».proof.Proof.Gen.ReferenceIdeal.Run
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_countable.Gen.facts,
    Frames.kernel, Frames.ideal, fun m g _ => Frames.ideal m g trivial, Frames.reference, fun m g _ => Frames.reference m g trivial, trivial, Values.equal⟩

end Cert.Proof

end
